-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x512x768 : Shape := ⟨3, ![4, 512, 768]⟩
abbrev S4x12x512x512 : Shape := ⟨4, ![4, 12, 512, 512]⟩
abbrev S4x16 : Shape := ⟨2, ![4, 16]⟩
abbrev S4x512 : Shape := ⟨2, ![4, 512]⟩
abbrev S1576x768 : Shape := ⟨2, ![1576, 768]⟩
abbrev S768 : Shape := ⟨1, ![768]⟩
abbrev S20x20 : Shape := ⟨2, ![20, 20]⟩
abbrev S7x20 : Shape := ⟨2, ![7, 20]⟩
abbrev S49152x97 : Shape := ⟨2, ![49152, 97]⟩
abbrev S97 : Shape := ⟨1, ![97]⟩
abbrev S_ : Shape := ⟨0, ![]⟩

class Facts : Prop where
  bcast_S_S4x16 : S_.BroadcastsInDim S4x16 (![] : Fin 0 → Fin S4x16.rank)
  reducesTo_S4x16_S_d0_1 : S4x16.ReducesTo [0, 1] S_
  h_S_ : 0 < S_.numel

variable [Facts]

def fn_part1 {F : FTy → Type} [FloatOps F] (main_arg4 : IVec S4x16 32) (main_v14 : IVec S_ 1) (main_c_7 : IVec S_ 32) : IVec S_ 1 :=
  let main_v15 : IVec S4x16 32 := broadcastInDim S4x16 ![] bcast_S_S4x16 main_c_7
  let main_v16 : IVec S4x16 1 := cmpi .sge main_arg4 main_v15
  let main_c_8 : IVec S_ 1 := constantI S_ 1 1#1
  let main_v17 : IVec S_ 1 := (fun x v => Host.reduce IntOp.andi x v reducesTo_S4x16_S_d0_1 h_S_) main_v16 main_c_8
  let main_v18 : IVec S_ 1 := andi main_v14 main_v17
  let main_c_9 : IVec S_ 32 := constantI S_ 32 7#32
  let main_v19 : IVec S4x16 32 := broadcastInDim S4x16 ![] bcast_S_S4x16 main_c_9
  let main_v20 : IVec S4x16 1 := cmpi .slt main_arg4 main_v19
  let main_c_10 : IVec S_ 1 := constantI S_ 1 1#1
  let main_v21 : IVec S_ 1 := (fun x v => Host.reduce IntOp.andi x v reducesTo_S4x16_S_d0_1 h_S_) main_v20 main_c_10
  let main_v22 : IVec S_ 1 := andi main_v18 main_v21
  main_v22

def fn {F : FTy → Type} [FloatOps F] (main_arg0 : FVec F S4x512x768 .f32) (main_arg1 : FVec F S4x12x512x512 .f32) (main_arg2 : IVec S4x16 32) (main_arg3 : IVec S4x16 32) (main_arg4 : IVec S4x16 32) (main_arg5 : FVec F S4x512 .f32) (main_arg6 : FVec F S1576x768 .f32) (main_arg7 : FVec F S768 .f32) (main_arg8 : FVec F S1576x768 .f32) (main_arg9 : FVec F S768 .f32) (main_arg10 : FVec F S20x20 .f32) (main_arg11 : FVec F S7x20 .f32) (main_arg12 : FVec F S49152x97 .f32) (main_arg13 : FVec F S97 .f32) : IVec S_ 1 :=
  let main_c : IVec S_ 32 := constantI S_ 32 0#32
  let main_v0 : IVec S4x16 32 := broadcastInDim S4x16 ![] bcast_S_S4x16 main_c
  let main_v1 : IVec S4x16 1 := cmpi .sge main_arg2 main_v0
  let main_c_0 : IVec S_ 1 := constantI S_ 1 1#1
  let main_v2 : IVec S_ 1 := (fun x v => Host.reduce IntOp.andi x v reducesTo_S4x16_S_d0_1 h_S_) main_v1 main_c_0
  let main_c_1 : IVec S_ 32 := constantI S_ 32 512#32
  let main_v3 : IVec S4x16 32 := broadcastInDim S4x16 ![] bcast_S_S4x16 main_c_1
  let main_v4 : IVec S4x16 1 := cmpi .slt main_arg2 main_v3
  let main_c_2 : IVec S_ 1 := constantI S_ 1 1#1
  let main_v5 : IVec S_ 1 := (fun x v => Host.reduce IntOp.andi x v reducesTo_S4x16_S_d0_1 h_S_) main_v4 main_c_2
  let main_v6 : IVec S_ 1 := andi main_v2 main_v5
  let main_c_3 : IVec S_ 32 := constantI S_ 32 0#32
  let main_v7 : IVec S4x16 32 := broadcastInDim S4x16 ![] bcast_S_S4x16 main_c_3
  let main_v8 : IVec S4x16 1 := cmpi .sge main_arg3 main_v7
  let main_c_4 : IVec S_ 1 := constantI S_ 1 1#1
  let main_v9 : IVec S_ 1 := (fun x v => Host.reduce IntOp.andi x v reducesTo_S4x16_S_d0_1 h_S_) main_v8 main_c_4
  let main_v10 : IVec S_ 1 := andi main_v6 main_v9
  let main_c_5 : IVec S_ 32 := constantI S_ 32 512#32
  let main_v11 : IVec S4x16 32 := broadcastInDim S4x16 ![] bcast_S_S4x16 main_c_5
  let main_v12 : IVec S4x16 1 := cmpi .slt main_arg3 main_v11
  let main_c_6 : IVec S_ 1 := constantI S_ 1 1#1
  let main_v13 : IVec S_ 1 := (fun x v => Host.reduce IntOp.andi x v reducesTo_S4x16_S_d0_1 h_S_) main_v12 main_c_6
  let main_v14 : IVec S_ 1 := andi main_v10 main_v13
  let main_c_7 : IVec S_ 32 := constantI S_ 32 0#32
  fn_part1 (F := F) main_arg4 main_v14 main_c_7
-- ==== Kernel.lean ====
abbrev S4x512x768 : Shape := ⟨3, ![4, 512, 768]⟩
abbrev S4x12x512x512 : Shape := ⟨4, ![4, 12, 512, 512]⟩
abbrev S4x16 : Shape := ⟨2, ![4, 16]⟩
abbrev S4x512 : Shape := ⟨2, ![4, 512]⟩
abbrev S1576x768 : Shape := ⟨2, ![1576, 768]⟩
abbrev S768 : Shape := ⟨1, ![768]⟩
abbrev S20x20 : Shape := ⟨2, ![20, 20]⟩
abbrev S7x20 : Shape := ⟨2, ![7, 20]⟩
abbrev S49152x97 : Shape := ⟨2, ![49152, 97]⟩
abbrev S97 : Shape := ⟨1, ![97]⟩
abbrev S240x16 : Shape := ⟨2, ![240, 16]⟩
abbrev S12x960x64 : Shape := ⟨3, ![12, 960, 64]⟩
abbrev S1x12x512x512 : Shape := ⟨4, ![1, 12, 512, 512]⟩
abbrev S1x512x768 : Shape := ⟨3, ![1, 512, 768]⟩
abbrev S12x240x64 : Shape := ⟨3, ![12, 240, 64]⟩
abbrev S16 : Shape := ⟨1, ![16]⟩
abbrev S1x16 : Shape := ⟨2, ![1, 16]⟩
abbrev S16x16 : Shape := ⟨2, ![16, 16]⟩
abbrev S16x1 : Shape := ⟨2, ![16, 1]⟩
abbrev S512 : Shape := ⟨1, ![512]⟩
abbrev S1x512 : Shape := ⟨2, ![1, 512]⟩
abbrev S16x512 : Shape := ⟨2, ![16, 512]⟩
abbrev S1x1x512x512 : Shape := ⟨4, ![1, 1, 512, 512]⟩
abbrev S512x512 : Shape := ⟨2, ![512, 512]⟩
abbrev S512x768 : Shape := ⟨2, ![512, 768]⟩
abbrev S16x768 : Shape := ⟨2, ![16, 768]⟩
abbrev S240x512 : Shape := ⟨2, ![240, 512]⟩
abbrev S240 : Shape := ⟨1, ![240]⟩
abbrev S240x1 : Shape := ⟨2, ![240, 1]⟩
abbrev S240x768 : Shape := ⟨2, ![240, 768]⟩
abbrev S16x7 : Shape := ⟨2, ![16, 7]⟩
abbrev S16x20 : Shape := ⟨2, ![16, 20]⟩
abbrev S240x20 : Shape := ⟨2, ![240, 20]⟩
abbrev S16x2 : Shape := ⟨2, ![16, 2]⟩
abbrev S240x2 : Shape := ⟨2, ![240, 2]⟩
abbrev S240x1536 : Shape := ⟨2, ![240, 1536]⟩
abbrev S240x40 : Shape := ⟨2, ![240, 40]⟩
abbrev S1536x768 : Shape := ⟨2, ![1536, 768]⟩
abbrev S40x768 : Shape := ⟨2, ![40, 768]⟩
abbrev S1x768 : Shape := ⟨2, ![1, 768]⟩
abbrev S240x64 : Shape := ⟨2, ![240, 64]⟩
abbrev S1x240x64 : Shape := ⟨3, ![1, 240, 64]⟩
abbrev S64x64x64 : Shape := ⟨3, ![64, 64, 64]⟩
abbrev S64x4096 : Shape := ⟨2, ![64, 4096]⟩
abbrev S960x97 : Shape := ⟨2, ![960, 97]⟩
abbrev S1x960x64 : Shape := ⟨3, ![1, 960, 64]⟩
abbrev S4096x97 : Shape := ⟨2, ![4096, 97]⟩
abbrev S960x64 : Shape := ⟨2, ![960, 64]⟩
abbrev S960x4096 : Shape := ⟨2, ![960, 4096]⟩
abbrev S960x128 : Shape := ⟨2, ![960, 128]⟩
abbrev S1x97 : Shape := ⟨2, ![1, 97]⟩

abbrev nBuf : Space → Nat
  | .hbm => 24
  | .vmem => 29
  | .smem => 0
  | _ => 0

abbrev bufTy : (tb : Table) → Fin (tcTables nBuf tb) → BufTy
  | .hbm, ⟨0, _⟩ => ⟨S4x512x768, .f32⟩
  | .hbm, ⟨1, _⟩ => ⟨S4x12x512x512, .f32⟩
  | .hbm, ⟨2, _⟩ => ⟨S4x16, .i32⟩
  | .hbm, ⟨3, _⟩ => ⟨S4x16, .i32⟩
  | .hbm, ⟨4, _⟩ => ⟨S4x16, .i32⟩
  | .hbm, ⟨5, _⟩ => ⟨S4x512, .f32⟩
  | .hbm, ⟨6, _⟩ => ⟨S1576x768, .f32⟩
  | .hbm, ⟨7, _⟩ => ⟨S768, .f32⟩
  | .hbm, ⟨8, _⟩ => ⟨S1576x768, .f32⟩
  | .hbm, ⟨9, _⟩ => ⟨S768, .f32⟩
  | .hbm, ⟨10, _⟩ => ⟨S20x20, .f32⟩
  | .hbm, ⟨11, _⟩ => ⟨S7x20, .f32⟩
  | .hbm, ⟨12, _⟩ => ⟨S49152x97, .f32⟩
  | .hbm, ⟨13, _⟩ => ⟨S97, .f32⟩
  | .hbm, ⟨14, _⟩ => ⟨S240x16, .f32⟩
  | .hbm, ⟨15, _⟩ => ⟨S240x16, .f32⟩
  | .hbm, ⟨16, _⟩ => ⟨S12x960x64, .f32⟩
  | .hbm, ⟨17, _⟩ => ⟨S12x960x64, .f32⟩
  | .hbm, ⟨18, _⟩ => ⟨S64x64x64, .i32⟩
  | .hbm, ⟨19, _⟩ => ⟨S64x64x64, .i32⟩
  | .hbm, ⟨20, _⟩ => ⟨S64x64x64, .i1⟩
  | .hbm, ⟨21, _⟩ => ⟨S64x64x64, .f32⟩
  | .hbm, ⟨22, _⟩ => ⟨S64x4096, .f32⟩
  | .hbm, ⟨23, _⟩ => ⟨S960x97, .f32⟩
  | .local _ .vmem, ⟨0, _⟩ => ⟨S4x16, .i32⟩
  | .local _ .vmem, ⟨1, _⟩ => ⟨S4x16, .i32⟩
  | .local _ .vmem, ⟨2, _⟩ => ⟨S4x16, .i32⟩
  | .local _ .vmem, ⟨3, _⟩ => ⟨S4x512, .f32⟩
  | .local _ .vmem, ⟨4, _⟩ => ⟨S1x12x512x512, .f32⟩
  | .local _ .vmem, ⟨5, _⟩ => ⟨S1x12x512x512, .f32⟩
  | .local _ .vmem, ⟨6, _⟩ => ⟨S1x512x768, .f32⟩
  | .local _ .vmem, ⟨7, _⟩ => ⟨S1x512x768, .f32⟩
  | .local _ .vmem, ⟨8, _⟩ => ⟨S240x16, .f32⟩
  | .local _ .vmem, ⟨9, _⟩ => ⟨S240x16, .f32⟩
  | .local _ .vmem, ⟨10, _⟩ => ⟨S1576x768, .f32⟩
  | .local _ .vmem, ⟨11, _⟩ => ⟨S768, .f32⟩
  | .local _ .vmem, ⟨12, _⟩ => ⟨S1576x768, .f32⟩
  | .local _ .vmem, ⟨13, _⟩ => ⟨S768, .f32⟩
  | .local _ .vmem, ⟨14, _⟩ => ⟨S7x20, .f32⟩
  | .local _ .vmem, ⟨15, _⟩ => ⟨S20x20, .f32⟩
  | .local _ .vmem, ⟨16, _⟩ => ⟨S12x240x64, .f32⟩
  | .local _ .vmem, ⟨17, _⟩ => ⟨S12x240x64, .f32⟩
  | .local _ .vmem, ⟨18, _⟩ => ⟨S12x240x64, .f32⟩
  | .local _ .vmem, ⟨19, _⟩ => ⟨S12x240x64, .f32⟩
  | .local _ .vmem, ⟨20, _⟩ => ⟨S1x960x64, .f32⟩
  | .local _ .vmem, ⟨21, _⟩ => ⟨S1x960x64, .f32⟩
  | .local _ .vmem, ⟨22, _⟩ => ⟨S1x960x64, .f32⟩
  | .local _ .vmem, ⟨23, _⟩ => ⟨S1x960x64, .f32⟩
  | .local _ .vmem, ⟨24, _⟩ => ⟨S4096x97, .f32⟩
  | .local _ .vmem, ⟨25, _⟩ => ⟨S4096x97, .f32⟩
  | .local _ .vmem, ⟨26, _⟩ => ⟨S97, .f32⟩
  | .local _ .vmem, ⟨27, _⟩ => ⟨S64x4096, .f32⟩
  | .local _ .vmem, ⟨28, _⟩ => ⟨S960x97, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0_0 : Ref sig .tc := ⟨.hbm, 16, rfl⟩
abbrev main_v0_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x12x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S240x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S240x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1576x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1576x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S7x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S12x240x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S12x240x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_10 : BitVec 32 := 0#32
  let v14 : BitVec 1 := Scalar.cmpi .ne v13 c0_i32_10
  v14

def k1_cond2 (i : grid1.Coords) : BitVec 1 :=
  let arg0 : BitVec 32 := BitVec.ofNat 32 (i 0).val
  let c0_i32_11 : BitVec 32 := 0#32
  let v15 : BitVec 1 := Scalar.cmpi .sgt arg0 c0_i32_11
  let v16 : BitVec 32 := Scalar.extui v15
  let c0_i32_12 : BitVec 32 := 0#32
  let v17 : BitVec 1 := Scalar.cmpi .ne v16 c0_i32_12
  v17

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x960x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x960x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x97 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S97 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S960x97 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S4x512x768 : Shape := ⟨3, ![4, 512, 768]⟩
abbrev S4x12x512x512 : Shape := ⟨4, ![4, 12, 512, 512]⟩
abbrev S4x16 : Shape := ⟨2, ![4, 16]⟩
abbrev S4x512 : Shape := ⟨2, ![4, 512]⟩
abbrev S1576x768 : Shape := ⟨2, ![1576, 768]⟩
abbrev S768 : Shape := ⟨1, ![768]⟩
abbrev S20x20 : Shape := ⟨2, ![20, 20]⟩
abbrev S7x20 : Shape := ⟨2, ![7, 20]⟩
abbrev S49152x97 : Shape := ⟨2, ![49152, 97]⟩
abbrev S97 : Shape := ⟨1, ![97]⟩
abbrev S_ : Shape := ⟨0, ![]⟩
abbrev S4x512x512 : Shape := ⟨3, ![4, 512, 512]⟩
abbrev S16x15 : Shape := ⟨2, ![16, 15]⟩
abbrev S240 : Shape := ⟨1, ![240]⟩
abbrev S1024 : Shape := ⟨1, ![1024]⟩
abbrev S4x16x1 : Shape := ⟨3, ![4, 16, 1]⟩
abbrev S4x16x768 : Shape := ⟨3, ![4, 16, 768]⟩
abbrev S4x16x512 : Shape := ⟨3, ![4, 16, 512]⟩
abbrev S4x16x20 : Shape := ⟨3, ![4, 16, 20]⟩
abbrev S240x1 : Shape := ⟨2, ![240, 1]⟩
abbrev S4x240x768 : Shape := ⟨3, ![4, 240, 768]⟩
abbrev S4x240x512 : Shape := ⟨3, ![4, 240, 512]⟩
abbrev S4x1x512 : Shape := ⟨3, ![4, 1, 512]⟩
abbrev S4x240x20 : Shape := ⟨3, ![4, 240, 20]⟩
abbrev S4x240 : Shape := ⟨2, ![4, 240]⟩
abbrev S4x240x1 : Shape := ⟨3, ![4, 240, 1]⟩
abbrev S4x240x1576 : Shape := ⟨3, ![4, 240, 1576]⟩
abbrev S960x1576 : Shape := ⟨2, ![960, 1576]⟩
abbrev S960x768 : Shape := ⟨2, ![960, 768]⟩
abbrev S1x768 : Shape := ⟨2, ![1, 768]⟩
abbrev S960x12x64 : Shape := ⟨3, ![960, 12, 64]⟩
abbrev S960x12x64x1 : Shape := ⟨4, ![960, 12, 64, 1]⟩
abbrev S960x12x1x64 : Shape := ⟨4, ![960, 12, 1, 64]⟩
abbrev S960x12x64x64 : Shape := ⟨4, ![960, 12, 64, 64]⟩
abbrev S960x49152 : Shape := ⟨2, ![960, 49152]⟩
abbrev S960x97 : Shape := ⟨2, ![960, 97]⟩
abbrev S1x97 : Shape := ⟨2, ![1, 97]⟩

abbrev nBuf : Space → Nat
  | .hbm => 275
  | .vmem => 0
  | .smem => 0
  | _ => 0

abbrev hbmTy0_0 (i : Nat) : BufTy := match i % 128 with
  | 0 => ⟨S4x512x768, .f32⟩
  | 1 => ⟨S4x12x512x512, .f32⟩
  | 2 => ⟨S4x16, .i32⟩
  | 3 => ⟨S4x16, .i32⟩
  | 4 => ⟨S4x16, .i32⟩
  | 5 => ⟨S4x512, .f32⟩
  | 6 => ⟨S1576x768, .f32⟩
  | 7 => ⟨S768, .f32⟩
  | 8 => ⟨S1576x768, .f32⟩
  | 9 => ⟨S768, .f32⟩
  | 10 => ⟨S20x20, .f32⟩
  | 11 => ⟨S7x20, .f32⟩
  | 12 => ⟨S49152x97, .f32⟩
  | 13 => ⟨S97, .f32⟩
  | 14 => ⟨S_, .f32⟩
  | 15 => ⟨S4x512x512, .f32⟩
  | 16 => ⟨S16x15, .i32⟩
  | 17 => ⟨S16x15, .i32⟩
  | 18 => ⟨S16x15, .i1⟩
  | 19 => ⟨S_, .i32⟩
  | 20 => ⟨S16x15, .i32⟩
  | 21 => ⟨S16x15, .i32⟩
  | 22 => ⟨S16x15, .i32⟩
  | 23 => ⟨S240, .i32⟩
  | 24 => ⟨S240, .i32⟩
  | 25 => ⟨S1024, .i32⟩
  | 26 => ⟨S_, .i32⟩
  | 27 => ⟨S1024, .i32⟩
  | 28 => ⟨S_, .i32⟩
  | 29 => ⟨S1024, .i32⟩
  | 30 => ⟨S1024, .i1⟩
  | 31 => ⟨S_, .i32⟩
  | 32 => ⟨S_, .i32⟩
  | 33 => ⟨S1024, .i32⟩
  | 34 => ⟨S1024, .i32⟩
  | 35 => ⟨S_, .i32⟩
  | 36 => ⟨S1024, .i32⟩
  | 37 => ⟨S1024, .i1⟩
  | 38 => ⟨S_, .i32⟩
  | 39 => ⟨S_, .i32⟩
  | 40 => ⟨S1024, .i32⟩
  | 41 => ⟨S1024, .i32⟩
  | 42 => ⟨S_, .i32⟩
  | 43 => ⟨S1024, .i32⟩
  | 44 => ⟨S1024, .i1⟩
  | 45 => ⟨S_, .i32⟩
  | 46 => ⟨S_, .i32⟩
  | 47 => ⟨S1024, .i32⟩
  | 48 => ⟨S1024, .i32⟩
  | 49 => ⟨S_, .i32⟩
  | 50 => ⟨S1024, .i32⟩
  | 51 => ⟨S1024, .i1⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S_, .i32⟩
  | 61 => ⟨S1024, .i32⟩
  | 62 => ⟨S1024, .i32⟩
  | 63 => ⟨S_, .i32⟩
  | 64 => ⟨S1024, .i32⟩
  | 65 => ⟨S1024, .i1⟩
  | 66 => ⟨S_, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i1⟩
  | 73 => ⟨S_, .i32⟩
  | 74 => ⟨S_, .i32⟩
  | 75 => ⟨S1024, .i32⟩
  | 76 => ⟨S1024, .i32⟩
  | 77 => ⟨S_, .i32⟩
  | 78 => ⟨S1024, .i32⟩
  | 79 => ⟨S1024, .i1⟩
  | 80 => ⟨S_, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i1⟩
  | 87 => ⟨S_, .i32⟩
  | 88 => ⟨S_, .i32⟩
  | 89 => ⟨S1024, .i32⟩
  | 90 => ⟨S1024, .i32⟩
  | 91 => ⟨S_, .i32⟩
  | 92 => ⟨S4x16, .i32⟩
  | 93 => ⟨S4x16, .i1⟩
  | 94 => ⟨S_, .i32⟩
  | 95 => ⟨S4x16, .i32⟩
  | 96 => ⟨S4x16, .i32⟩
  | 97 => ⟨S4x16, .i32⟩
  | 98 => ⟨S4x16x1, .i32⟩
  | 99 => ⟨S4x16x768, .f32⟩
  | 100 => ⟨S_, .i32⟩
  | 101 => ⟨S4x16, .i32⟩
  | 102 => ⟨S4x16, .i1⟩
  | 103 => ⟨S_, .i32⟩
  | 104 => ⟨S4x16, .i32⟩
  | 105 => ⟨S4x16, .i32⟩
  | 106 => ⟨S4x16, .i32⟩
  | 107 => ⟨S4x16x1, .i32⟩
  | 108 => ⟨S4x16x768, .f32⟩
  | 109 => ⟨S4x16x768, .f32⟩
  | 110 => ⟨S_, .f32⟩
  | 111 => ⟨S4x16x768, .f32⟩
  | 112 => ⟨S4x16x768, .f32⟩
  | 113 => ⟨S_, .i32⟩
  | 114 => ⟨S4x16, .i32⟩
  | 115 => ⟨S4x16, .i1⟩
  | 116 => ⟨S_, .i32⟩
  | 117 => ⟨S4x16, .i32⟩
  | 118 => ⟨S4x16, .i32⟩
  | 119 => ⟨S4x16, .i32⟩
  | 120 => ⟨S4x16x1, .i32⟩
  | 121 => ⟨S4x16x512, .f32⟩
  | 122 => ⟨S_, .i32⟩
  | 123 => ⟨S4x16, .i32⟩
  | 124 => ⟨S4x16, .i1⟩
  | 125 => ⟨S_, .i32⟩
  | 126 => ⟨S4x16, .i32⟩
  | 127 => ⟨S4x16, .i32⟩
  | _ => ⟨S4x512x768, .f32⟩

abbrev hbmTy0_1 (i : Nat) : BufTy := match i % 128 with
  | 0 => ⟨S4x16, .i32⟩
  | 1 => ⟨S4x16x1, .i32⟩
  | 2 => ⟨S4x16x512, .f32⟩
  | 3 => ⟨S4x16x512, .f32⟩
  | 4 => ⟨S_, .f32⟩
  | 5 => ⟨S4x16x512, .f32⟩
  | 6 => ⟨S4x16x512, .f32⟩
  | 7 => ⟨S_, .i32⟩
  | 8 => ⟨S4x16, .i32⟩
  | 9 => ⟨S4x16, .i1⟩
  | 10 => ⟨S_, .i32⟩
  | 11 => ⟨S4x16, .i32⟩
  | 12 => ⟨S4x16, .i32⟩
  | 13 => ⟨S4x16, .i32⟩
  | 14 => ⟨S4x16x1, .i32⟩
  | 15 => ⟨S4x16x20, .f32⟩
  | 16 => ⟨S_, .i32⟩
  | 17 => ⟨S240, .i32⟩
  | 18 => ⟨S240, .i1⟩
  | 19 => ⟨S_, .i32⟩
  | 20 => ⟨S240, .i32⟩
  | 21 => ⟨S240, .i32⟩
  | 22 => ⟨S240, .i32⟩
  | 23 => ⟨S240x1, .i32⟩
  | 24 => ⟨S4x240x768, .f32⟩
  | 25 => ⟨S_, .i32⟩
  | 26 => ⟨S240, .i32⟩
  | 27 => ⟨S240, .i1⟩
  | 28 => ⟨S_, .i32⟩
  | 29 => ⟨S240, .i32⟩
  | 30 => ⟨S240, .i32⟩
  | 31 => ⟨S240, .i32⟩
  | 32 => ⟨S240x1, .i32⟩
  | 33 => ⟨S4x240x768, .f32⟩
  | 34 => ⟨S_, .i32⟩
  | 35 => ⟨S240, .i32⟩
  | 36 => ⟨S240, .i1⟩
  | 37 => ⟨S_, .i32⟩
  | 38 => ⟨S240, .i32⟩
  | 39 => ⟨S240, .i32⟩
  | 40 => ⟨S240, .i32⟩
  | 41 => ⟨S240x1, .i32⟩
  | 42 => ⟨S4x240x512, .f32⟩
  | 43 => ⟨S_, .i32⟩
  | 44 => ⟨S240, .i32⟩
  | 45 => ⟨S240, .i1⟩
  | 46 => ⟨S_, .i32⟩
  | 47 => ⟨S240, .i32⟩
  | 48 => ⟨S240, .i32⟩
  | 49 => ⟨S240, .i32⟩
  | 50 => ⟨S240x1, .i32⟩
  | 51 => ⟨S4x240x512, .f32⟩
  | 52 => ⟨S4x240x512, .f32⟩
  | 53 => ⟨S4x1x512, .f32⟩
  | 54 => ⟨S4x240x512, .f32⟩
  | 55 => ⟨S4x240x512, .f32⟩
  | 56 => ⟨S_, .i32⟩
  | 57 => ⟨S240, .i32⟩
  | 58 => ⟨S240, .i1⟩
  | 59 => ⟨S_, .i32⟩
  | 60 => ⟨S240, .i32⟩
  | 61 => ⟨S240, .i32⟩
  | 62 => ⟨S240, .i32⟩
  | 63 => ⟨S240x1, .i32⟩
  | 64 => ⟨S4x240x20, .f32⟩
  | 65 => ⟨S_, .i32⟩
  | 66 => ⟨S240, .i32⟩
  | 67 => ⟨S240, .i1⟩
  | 68 => ⟨S_, .i32⟩
  | 69 => ⟨S240, .i32⟩
  | 70 => ⟨S240, .i32⟩
  | 71 => ⟨S240, .i32⟩
  | 72 => ⟨S240x1, .i32⟩
  | 73 => ⟨S4x240x20, .f32⟩
  | 74 => ⟨S_, .i32⟩
  | 75 => ⟨S240, .i32⟩
  | 76 => ⟨S240, .i1⟩
  | 77 => ⟨S_, .i32⟩
  | 78 => ⟨S240, .i32⟩
  | 79 => ⟨S240, .i32⟩
  | 80 => ⟨S240, .i32⟩
  | 81 => ⟨S240x1, .i32⟩
  | 82 => ⟨S4x240, .i32⟩
  | 83 => ⟨S_, .i32⟩
  | 84 => ⟨S240, .i32⟩
  | 85 => ⟨S240, .i1⟩
  | 86 => ⟨S_, .i32⟩
  | 87 => ⟨S240, .i32⟩
  | 88 => ⟨S240, .i32⟩
  | 89 => ⟨S240, .i32⟩
  | 90 => ⟨S240x1, .i32⟩
  | 91 => ⟨S4x240, .i32⟩
  | 92 => ⟨S4x240, .i32⟩
  | 93 => ⟨S4x240, .i32⟩
  | 94 => ⟨S_, .i32⟩
  | 95 => ⟨S4x240, .i32⟩
  | 96 => ⟨S4x240, .i1⟩
  | 97 => ⟨S_, .i32⟩
  | 98 => ⟨S4x240, .i32⟩
  | 99 => ⟨S4x240, .i32⟩
  | 100 => ⟨S4x240, .i32⟩
  | 101 => ⟨S4x240x1, .i32⟩
  | 102 => ⟨S4x240, .i32⟩
  | 103 => ⟨S_, .i32⟩
  | 104 => ⟨S4x240, .i32⟩
  | 105 => ⟨S4x240, .i1⟩
  | 106 => ⟨S_, .i32⟩
  | 107 => ⟨S4x240, .i32⟩
  | 108 => ⟨S4x240, .i32⟩
  | 109 => ⟨S4x240, .i32⟩
  | 110 => ⟨S4x240x1, .i32⟩
  | 111 => ⟨S4x240x20, .f32⟩
  | 112 => ⟨S_, .f32⟩
  | 113 => ⟨S4x240, .f32⟩
  | 114 => ⟨S4x240x1, .f32⟩
  | 115 => ⟨S_, .f32⟩
  | 116 => ⟨S4x240x1, .f32⟩
  | 117 => ⟨S4x240x1, .f32⟩
  | 118 => ⟨S4x240x512, .f32⟩
  | 119 => ⟨S4x240x512, .f32⟩
  | 120 => ⟨S4x240x768, .f32⟩
  | 121 => ⟨S4x240x1576, .f32⟩
  | 122 => ⟨S4x240x1576, .f32⟩
  | 123 => ⟨S960x1576, .f32⟩
  | 124 => ⟨S960x1576, .f32⟩
  | 125 => ⟨S960x768, .f32⟩
  | 126 => ⟨S1x768, .f32⟩
  | 127 => ⟨S960x768, .f32⟩
  | _ => ⟨S4x512x768, .f32⟩

abbrev hbmTy0_2 (i : Nat) : BufTy := match i % 128 with
  | 0 => ⟨S960x768, .f32⟩
  | 1 => ⟨S960x768, .f32⟩
  | 2 => ⟨S960x768, .f32⟩
  | 3 => ⟨S1x768, .f32⟩
  | 4 => ⟨S960x768, .f32⟩
  | 5 => ⟨S960x768, .f32⟩
  | 6 => ⟨S960x768, .f32⟩
  | 7 => ⟨S960x12x64, .f32⟩
  | 8 => ⟨S960x12x64, .f32⟩
  | 9 => ⟨S960x12x64x1, .f32⟩
  | 10 => ⟨S960x12x1x64, .f32⟩
  | 11 => ⟨S960x12x64x64, .f32⟩
  | 12 => ⟨S960x12x64x64, .f32⟩
  | 13 => ⟨S960x12x64x64, .f32⟩
  | 14 => ⟨S960x49152, .f32⟩
  | 15 => ⟨S960x97, .f32⟩
  | 16 => ⟨S1x97, .f32⟩
  | 17 => ⟨S960x97, .f32⟩
  | 18 => ⟨S960x97, .f32⟩
  | _ => ⟨S4x512x768, .f32⟩

abbrev hbmTy (i : Nat) : BufTy := match i / 128 with
  | 0 => hbmTy0_0 i
  | 1 => hbmTy0_1 i
  | 2 => hbmTy0_2 i
  | _ => ⟨S4x512x768, .f32⟩

abbrev bufTy : (tb : Table) → Fin (tcTables nBuf tb) → BufTy
  | .hbm, ⟨i, _⟩ => hbmTy i
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_c_6 : Ref sig .tc := ⟨.hbm, 45, rfl⟩
abbrev main_call3_v0 : Ref sig .tc := ⟨.hbm, 46, rfl⟩
abbrev main_call3_v1 : Ref sig .tc := ⟨.hbm, 47, rfl⟩
abbrev main_v19 : Ref sig .tc := ⟨.hbm, 48, rfl⟩
abbrev main_c_7 : Ref sig .tc := ⟨.hbm, 49, rfl⟩
abbrev main_v20 : Ref sig .tc := ⟨.hbm, 50, rfl⟩
abbrev main_v21 : Ref sig .tc := ⟨.hbm, 51, rfl⟩
abbrev main_c_8 : Ref sig .tc := ⟨.hbm, 52, rfl⟩
abbrev main_call4_v0 : Ref sig .tc := ⟨.hbm, 53, rfl⟩
abbrev main_call4_v1 : Ref sig .tc := ⟨.hbm, 54, rfl⟩
abbrev main_v22 : Ref sig .tc := ⟨.hbm, 55, rfl⟩
abbrev main_c_9 : Ref sig .tc := ⟨.hbm, 56, rfl⟩
abbrev main_v23 : Ref sig .tc := ⟨.hbm, 57, rfl⟩
abbrev main_v24 : Ref sig .tc := ⟨.hbm, 58, rfl⟩
abbrev main_c_10 : Ref sig .tc := ⟨.hbm, 59, rfl⟩
abbrev main_call5_v0 : Ref sig .tc := ⟨.hbm, 60, rfl⟩
abbrev main_call5_v1 : Ref sig .tc := ⟨.hbm, 61, rfl⟩
abbrev main_v25 : Ref sig .tc := ⟨.hbm, 62, rfl⟩
abbrev main_c_11 : Ref sig .tc := ⟨.hbm, 63, rfl⟩
abbrev main_v26 : Ref sig .tc := ⟨.hbm, 64, rfl⟩
abbrev main_v27 : Ref sig .tc := ⟨.hbm, 65, rfl⟩
abbrev main_c_12 : Ref sig .tc := ⟨.hbm, 66, rfl⟩
abbrev main_call6_v0 : Ref sig .tc := ⟨.hbm, 67, rfl⟩
abbrev main_call6_v1 : Ref sig .tc := ⟨.hbm, 68, rfl⟩
abbrev main_v28 : Ref sig .tc := ⟨.hbm, 69, rfl⟩
abbrev main_c_13 : Ref sig .tc := ⟨.hbm, 70, rfl⟩
abbrev main_v29 : Ref sig .tc := ⟨.hbm, 71, rfl⟩
abbrev main_v30 : Ref sig .tc := ⟨.hbm, 72, rfl⟩
abbrev main_c_14 : Ref sig .tc := ⟨.hbm, 73, rfl⟩
abbrev main_call7_v0 : Ref sig .tc := ⟨.hbm, 74, rfl⟩
abbrev main_call7_v1 : Ref sig .tc := ⟨.hbm, 75, rfl⟩
abbrev main_v31 : Ref sig .tc := ⟨.hbm, 76, rfl⟩
abbrev main_c_15 : Ref sig .tc := ⟨.hbm, 77, rfl⟩
abbrev main_v32 : Ref sig .tc := ⟨.hbm, 78, rfl⟩
abbrev main_v33 : Ref sig .tc := ⟨.hbm, 79, rfl⟩
abbrev main_c_16 : Ref sig .tc := ⟨.hbm, 80, rfl⟩
abbrev main_call8_v0 : Ref sig .tc := ⟨.hbm, 81, rfl⟩
abbrev main_call8_v1 : Ref sig .tc := ⟨.hbm, 82, rfl⟩
abbrev main_v34 : Ref sig .tc := ⟨.hbm, 83, rfl⟩
abbrev main_c_17 : Ref sig .tc := ⟨.hbm, 84, rfl⟩
abbrev main_v35 : Ref sig .tc := ⟨.hbm, 85, rfl⟩
abbrev main_v36 : Ref sig .tc := ⟨.hbm, 86, rfl⟩
abbrev main_c_18 : Ref sig .tc := ⟨.hbm, 87, rfl⟩
abbrev main_call9_v0 : Ref sig .tc := ⟨.hbm, 88, rfl⟩
abbrev main_call9_v1 : Ref sig .tc := ⟨.hbm, 89, rfl⟩
abbrev main_v37 : Ref sig .tc := ⟨.hbm, 90, rfl⟩
abbrev main_c_19 : Ref sig .tc := ⟨.hbm, 91, rfl⟩
abbrev main_v38 : Ref sig .tc := ⟨.hbm, 92, rfl⟩
abbrev main_v39 : Ref sig .tc := ⟨.hbm, 93, rfl⟩
abbrev main_c_20 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_c_21 : Ref sig .tc := ⟨.hbm, 100, rfl⟩
abbrev main_v45 : Ref sig .tc := ⟨.hbm, 101, rfl⟩
abbrev main_v46 : Ref sig .tc := ⟨.hbm, 102, rfl⟩
abbrev main_c_22 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_23 : Ref sig .tc := ⟨.hbm, 110, rfl⟩
abbrev main_v53 : Ref sig .tc := ⟨.hbm, 111, rfl⟩
abbrev main_v54 : Ref sig .tc := ⟨.hbm, 112, rfl⟩
abbrev main_c_24 : Ref sig .tc := ⟨.hbm, 113, rfl⟩
abbrev main_v55 : Ref sig .tc := ⟨.hbm, 114, rfl⟩
abbrev main_v56 : Ref sig .tc := ⟨.hbm, 115, rfl⟩
abbrev main_c_25 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_c_26 : Ref sig .tc := ⟨.hbm, 122, rfl⟩
abbrev main_v62 : Ref sig .tc := ⟨.hbm, 123, rfl⟩
abbrev main_v63 : Ref sig .tc := ⟨.hbm, 124, rfl⟩
abbrev main_c_27 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_28 : Ref sig .tc := ⟨.hbm, 132, rfl⟩
abbrev main_v70 : Ref sig .tc := ⟨.hbm, 133, rfl⟩
abbrev main_v71 : Ref sig .tc := ⟨.hbm, 134, rfl⟩
abbrev main_c_29 : Ref sig .tc := ⟨.hbm, 135, rfl⟩
abbrev main_v72 : Ref sig .tc := ⟨.hbm, 136, rfl⟩
abbrev main_v73 : Ref sig .tc := ⟨.hbm, 137, rfl⟩
abbrev main_c_30 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_c_31 : Ref sig .tc := ⟨.hbm, 144, rfl⟩
abbrev main_v79 : Ref sig .tc := ⟨.hbm, 145, rfl⟩
abbrev main_v80 : Ref sig .tc := ⟨.hbm, 146, rfl⟩
abbrev main_c_32 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_c_33 : Ref sig .tc := ⟨.hbm, 153, rfl⟩
abbrev main_v86 : Ref sig .tc := ⟨.hbm, 154, rfl⟩
abbrev main_v87 : Ref sig .tc := ⟨.hbm, 155, rfl⟩
abbrev main_c_34 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_c_35 : Ref sig .tc := ⟨.hbm, 162, rfl⟩
abbrev main_v93 : Ref sig .tc := ⟨.hbm, 163, rfl⟩
abbrev main_v94 : Ref sig .tc := ⟨.hbm, 164, rfl⟩
abbrev main_c_36 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_c_37 : Ref sig .tc := ⟨.hbm, 171, rfl⟩
abbrev main_v100 : Ref sig .tc := ⟨.hbm, 172, rfl⟩
abbrev main_v101 : Ref sig .tc := ⟨.hbm, 173, rfl⟩
abbrev main_c_38 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_c_39 : Ref sig .tc := ⟨.hbm, 184, rfl⟩
abbrev main_v111 : Ref sig .tc := ⟨.hbm, 185, rfl⟩
abbrev main_v112 : Ref sig .tc := ⟨.hbm, 186, rfl⟩
abbrev main_c_40 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_c_41 : Ref sig .tc := ⟨.hbm, 193, rfl⟩
abbrev main_v118 : Ref sig .tc := ⟨.hbm, 194, rfl⟩
abbrev main_v119 : Ref sig .tc := ⟨.hbm, 195, rfl⟩
abbrev main_c_42 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_c_43 : Ref sig .tc := ⟨.hbm, 202, rfl⟩
abbrev main_v125 : Ref sig .tc := ⟨.hbm, 203, rfl⟩
abbrev main_v126 : Ref sig .tc := ⟨.hbm, 204, rfl⟩
abbrev main_c_44 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_c_45 : Ref sig .tc := ⟨.hbm, 211, rfl⟩
abbrev main_v132 : Ref sig .tc := ⟨.hbm, 212, rfl⟩
abbrev main_v133 : Ref sig .tc := ⟨.hbm, 213, rfl⟩
abbrev main_c_46 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_c_47 : Ref sig .tc := ⟨.hbm, 222, rfl⟩
abbrev main_v141 : Ref sig .tc := ⟨.hbm, 223, rfl⟩
abbrev main_v142 : Ref sig .tc := ⟨.hbm, 224, rfl⟩
abbrev main_c_48 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_c_49 : Ref sig .tc := ⟨.hbm, 231, rfl⟩
abbrev main_v148 : Ref sig .tc := ⟨.hbm, 232, rfl⟩
abbrev main_v149 : Ref sig .tc := ⟨.hbm, 233, rfl⟩
abbrev main_c_50 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_cst_51 : Ref sig .tc := ⟨.hbm, 240, rfl⟩
abbrev main_v155 : Ref sig .tc := ⟨.hbm, 241, rfl⟩
abbrev main_v156 : Ref sig .tc := ⟨.hbm, 242, rfl⟩
abbrev main_cst_52 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩

abbrev nD : Nat := 1
abbrev τ : Topo := Topo.v7x

variable {F : FTy → Type} [FloatOps F]
-- ==== Proof.KernelIdealFirst.lean ====
/- The first kernel call: what its body leaves in its two result blocks, as a function of its fourteen input blocks, and the
   proof that at every grid point the body runs and leaves exactly that. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The blocks the first kernel call reads at one grid point. -/
structure Blocks (F : FTy → Type) [FloatOps F] where
  head : Vec F S4x16 .i32
  tail : Vec F S4x16 .i32
  kind : Vec F S4x16 .i32
  mask : Vec F S4x512 .f32
  att : Vec F S1x12x512x512 .f32
  hid : Vec F S1x512x768 .f32
  pick0 : Vec F S240x16 .f32
  pick1 : Vec F S240x16 .f32
  hw : Vec F S1576x768 .f32
  hb : Vec F S768 .f32
  tw : Vec F S1576x768 .f32
  tb : Vec F S768 .f32
  kinds : Vec F S7x20 .f32
  dists : Vec F S20x20 .f32

/-! ## The rectangles the body reads and writes -/

abbrev r0_0 : Rect S4x16 := Rect.unit (s := S4x16) ![0, 0] S4x16.size inb_S4x16_S4x16_0_0
abbrev r0_1 : Rect S4x512 := Rect.unit (s := S4x512) ![0, 0] S4x512.size inb_S4x512_S4x512_0_0
abbrev r0_2 : Rect S1x12x512x512 := Rect.unit (s := S1x12x512x512) ![0, 0, 0, 0] S1x1x512x512.size inb_S1x12x512x512_S1x1x512x512_0_0_0_0
abbrev r0_3 : Rect S1x12x512x512 := Rect.unit (s := S1x12x512x512) ![0, 1, 0, 0] S1x1x512x512.size inb_S1x12x512x512_S1x1x512x512_0_1_0_0
abbrev r0_4 : Rect S1x12x512x512 := Rect.unit (s := S1x12x512x512) ![0, 2, 0, 0] S1x1x512x512.size inb_S1x12x512x512_S1x1x512x512_0_2_0_0
abbrev r0_5 : Rect S1x12x512x512 := Rect.unit (s := S1x12x512x512) ![0, 3, 0, 0] S1x1x512x512.size inb_S1x12x512x512_S1x1x512x512_0_3_0_0
abbrev r0_6 : Rect S1x12x512x512 := Rect.unit (s := S1x12x512x512) ![0, 4, 0, 0] S1x1x512x512.size inb_S1x12x512x512_S1x1x512x512_0_4_0_0
abbrev r0_7 : Rect S1x12x512x512 := Rect.unit (s := S1x12x512x512) ![0, 5, 0, 0] S1x1x512x512.size inb_S1x12x512x512_S1x1x512x512_0_5_0_0
abbrev r0_8 : Rect S1x12x512x512 := Rect.unit (s := S1x12x512x512) ![0, 6, 0, 0] S1x1x512x512.size inb_S1x12x512x512_S1x1x512x512_0_6_0_0
abbrev r0_9 : Rect S1x12x512x512 := Rect.unit (s := S1x12x512x512) ![0, 7, 0, 0] S1x1x512x512.size inb_S1x12x512x512_S1x1x512x512_0_7_0_0
abbrev r0_10 : Rect S1x12x512x512 := Rect.unit (s := S1x12x512x512) ![0, 8, 0, 0] S1x1x512x512.size inb_S1x12x512x512_S1x1x512x512_0_8_0_0
abbrev r0_11 : Rect S1x12x512x512 := Rect.unit (s := S1x12x512x512) ![0, 9, 0, 0] S1x1x512x512.size inb_S1x12x512x512_S1x1x512x512_0_9_0_0
abbrev r0_12 : Rect S1x12x512x512 := Rect.unit (s := S1x12x512x512) ![0, 10, 0, 0] S1x1x512x512.size inb_S1x12x512x512_S1x1x512x512_0_10_0_0
abbrev r0_13 : Rect S1x12x512x512 := Rect.unit (s := S1x12x512x512) ![0, 11, 0, 0] S1x1x512x512.size inb_S1x12x512x512_S1x1x512x512_0_11_0_0
abbrev r0_14 : Rect S1x512x768 := Rect.unit (s := S1x512x768) ![0, 0, 0] S1x512x768.size inb_S1x512x768_S1x512x768_0_0_0
abbrev r0_15 : Rect S240x16 := Rect.unit (s := S240x16) ![0, 0] S240x16.size inb_S240x16_S240x16_0_0
abbrev r0_16 : Rect S7x20 := Rect.unit (s := S7x20) ![0, 0] S7x20.size inb_S7x20_S7x20_0_0
abbrev r0_17 : Rect S20x20 := Rect.unit (s := S20x20) ![0, 0] S20x20.size inb_S20x20_S20x20_0_0
abbrev r0_18 : Rect S1576x768 := Rect.unit (s := S1576x768) ![0, 0] S1536x768.size inb_S1576x768_S1536x768_0_0
abbrev r0_19 : Rect S1576x768 := Rect.unit (s := S1576x768) ![1536, 0] S40x768.size inb_S1576x768_S40x768_1536_0
abbrev r0_20 : Rect S768 := Rect.unit (s := S768) ![0] S768.size inb_S768_S768_0
abbrev r0_21 : Rect S12x240x64 := Rect.unit (s := S12x240x64) ![0, 0, 0] S1x240x64.size inb_S12x240x64_S1x240x64_0_0_0
abbrev r0_22 : Rect S12x240x64 := Rect.unit (s := S12x240x64) ![1, 0, 0] S1x240x64.size inb_S12x240x64_S1x240x64_1_0_0
abbrev r0_23 : Rect S12x240x64 := Rect.unit (s := S12x240x64) ![2, 0, 0] S1x240x64.size inb_S12x240x64_S1x240x64_2_0_0
abbrev r0_24 : Rect S12x240x64 := Rect.unit (s := S12x240x64) ![3, 0, 0] S1x240x64.size inb_S12x240x64_S1x240x64_3_0_0
abbrev r0_25 : Rect S12x240x64 := Rect.unit (s := S12x240x64) ![4, 0, 0] S1x240x64.size inb_S12x240x64_S1x240x64_4_0_0
abbrev r0_26 : Rect S12x240x64 := Rect.unit (s := S12x240x64) ![5, 0, 0] S1x240x64.size inb_S12x240x64_S1x240x64_5_0_0
abbrev r0_27 : Rect S12x240x64 := Rect.unit (s := S12x240x64) ![6, 0, 0] S1x240x64.size inb_S12x240x64_S1x240x64_6_0_0
abbrev r0_28 : Rect S12x240x64 := Rect.unit (s := S12x240x64) ![7, 0, 0] S1x240x64.size inb_S12x240x64_S1x240x64_7_0_0
abbrev r0_29 : Rect S12x240x64 := Rect.unit (s := S12x240x64) ![8, 0, 0] S1x240x64.size inb_S12x240x64_S1x240x64_8_0_0
abbrev r0_30 : Rect S12x240x64 := Rect.unit (s := S12x240x64) ![9, 0, 0] S1x240x64.size inb_S12x240x64_S1x240x64_9_0_0
abbrev r0_31 : Rect S12x240x64 := Rect.unit (s := S12x240x64) ![10, 0, 0] S1x240x64.size inb_S12x240x64_S1x240x64_10_0_0
abbrev r0_32 : Rect S12x240x64 := Rect.unit (s := S12x240x64) ![11, 0, 0] S1x240x64.size inb_S12x240x64_S1x240x64_11_0_0

/-! ## The values of the body that are read more than once -/

/-- The head positions of this example as a column of numbers. -/
def headCol (i : grid0.Coords) (x : Blocks F) : FVec F S16x1 .f32 :=
  k0_pay4 i (View.ld x.head r0_0)
/-- The tail positions of this example as a column of numbers. -/
def tailCol (i : grid0.Coords) (x : Blocks F) : FVec F S16x1 .f32 :=
  k0_pay5 i (View.ld x.tail r0_0)
/-- The head positions of this example as a column of integers. -/
def headIdx (i : grid0.Coords) (x : Blocks F) : IVec S16x1 32 :=
  k0_pay6 i (View.ld x.head r0_0)
/-- The tail positions of this example as a column of integers. -/
def tailIdx (i : grid0.Coords) (x : Blocks F) : IVec S16x1 32 :=
  k0_pay7 i (View.ld x.tail r0_0)
/-- Per entity, one half at its head position plus one half at its tail position. -/
def spans (i : grid0.Coords) (x : Blocks F) : FVec F S16x512 .f32 :=
  k0_pay11 (F := F) (headIdx i x) (tailIdx i x)
/-- Per pair, the attention-weighted mean of the hidden states. -/
def info (i : grid0.Coords) (x : Blocks F) : FVec F S240x768 .f32 :=
  k0_pay17 (k0_pay10 (BitVec.ofNat 32 (i 0).val) (View.ld x.mask r0_1)) (spans i x) (k0_pay14 (spans i x) (k0_pay12 (headIdx i x) (tailIdx i x) (View.ld x.att r0_2) (View.ld x.att r0_3)) (k0_pay13 (headIdx i x) (tailIdx i x) (View.ld x.att r0_4)) (View.ld x.att r0_5) (View.ld x.att r0_6) (View.ld x.att r0_7) (View.ld x.att r0_8) (View.ld x.att r0_9) (View.ld x.att r0_10)) (View.ld x.att r0_11) (View.ld x.att r0_12) (View.ld x.att r0_13) (View.ld x.hid r0_14) (View.ld x.pick0 r0_15) (View.ld x.pick1 r0_15)
/-- Per entity, where its kind is. -/
def kindHot (i : grid0.Coords) (x : Blocks F) : IVec S16x7 32 :=
  k0_pay20 (k0_pay9 (k0_pay8 i (View.ld x.kind r0_0)) (iota .tc S16x16 32 [0] iota_S16x16_d0_w32) (iota .tc S16x16 32 [1] iota_S16x16_d1_w32))
/-- Per pair, the distance of the two heads. -/
def distance (i : grid0.Coords) (x : Blocks F) : FVec F S240x1 .f32 :=
  k0_pay24 (headCol i x) (tailCol i x) (View.ld x.pick0 r0_15) (View.ld x.pick1 r0_15)
/-- Per pair, the number of the first thresholds its distance reaches. -/
def bucketSum (i : grid0.Coords) (x : Blocks F) : FVec F S240x1 .f32 :=
  k0_pay25 (headCol i x) (tailCol i x) (View.ld x.pick0 r0_15) (View.ld x.pick1 r0_15)
/-- Per pair, whether its distance reaches the last threshold. -/
def farther (i : grid0.Coords) (x : Blocks F) : IVec S240x1 1 :=
  k0_pay26 (headCol i x) (tailCol i x) (View.ld x.pick0 r0_15) (View.ld x.pick1 r0_15)
/-- Per pair, the head representation. -/
def headRows (i : grid0.Coords) (x : Blocks F) : FVec F S240x768 .f32 :=
  k0_pay28 (info i x) (k0_pay18 (spans i x) (View.ld x.hid r0_14) (View.ld x.pick0 r0_15)) (k0_pay22 (View.ld x.pick0 r0_15) (kindHot i x) (View.ld x.kinds r0_16)) (distance i x) (bucketSum i x) (farther i x) (View.ld x.dists r0_17) (View.ld x.hw r0_18) (View.ld x.hw r0_19) (View.ld x.hb r0_20)
/-- Per pair, the tail representation before the bias. -/
def tailPre (i : grid0.Coords) (x : Blocks F) : FVec F S240x768 .f32 :=
  k0_pay29 (info i x) (k0_pay19 (spans i x) (View.ld x.hid r0_14) (View.ld x.pick1 r0_15)) (k0_pay23 (View.ld x.pick1 r0_15) (kindHot i x) (View.ld x.kinds r0_16)) (distance i x) (bucketSum i x) (farther i x) (View.ld x.dists r0_17) (View.ld x.tw r0_18) (View.ld x.tw r0_19)
/-- Per pair, the tail representation. -/
def tailRows (i : grid0.Coords) (x : Blocks F) : FVec F S240x768 .f32 :=
  k0_pay30 (tailPre i x) (View.ld x.tb r0_20)

/-- What the body leaves in its head result block: its twelve stores, the last first. -/
def headOut (i : grid0.Coords) (x : Blocks F) : Vec F S12x240x64 .f32 :=
  View.canon [⟨r0_32, k0_pay1 (headRows i x)⟩,
    ⟨r0_31, k0_pay52 (headRows i x)⟩,
    ⟨r0_30, k0_pay50 (headRows i x)⟩,
    ⟨r0_29, k0_pay48 (headRows i x)⟩,
    ⟨r0_28, k0_pay46 (k0_pay45 (headRows i x))⟩,
    ⟨r0_27, k0_pay43 (headRows i x)⟩,
    ⟨r0_26, k0_pay41 (headRows i x)⟩,
    ⟨r0_25, k0_pay39 (headRows i x)⟩,
    ⟨r0_24, k0_pay37 (headRows i x)⟩,
    ⟨r0_23, k0_pay35 (headRows i x)⟩,
    ⟨r0_22, k0_pay33 (headRows i x)⟩,
    ⟨r0_21, k0_pay31 (headRows i x)⟩]

/-- What the body leaves in its tail result block: its twelve stores, the last first. -/
def tailOut (i : grid0.Coords) (x : Blocks F) : Vec F S12x240x64 .f32 :=
  View.canon [⟨r0_32, k0_pay2 (tailRows i x)⟩,
    ⟨r0_31, k0_pay53 (tailRows i x)⟩,
    ⟨r0_30, k0_pay51 (tailRows i x)⟩,
    ⟨r0_29, k0_pay49 (tailRows i x)⟩,
    ⟨r0_28, k0_pay47 (tailRows i x)⟩,
    ⟨r0_27, k0_pay44 (tailRows i x)⟩,
    ⟨r0_26, k0_pay42 (tailRows i x)⟩,
    ⟨r0_25, k0_pay40 (tailRows i x)⟩,
    ⟨r0_24, k0_pay38 (tailRows i x)⟩,
    ⟨r0_23, k0_pay36 (tailPre i x) (View.ld x.tb r0_20)⟩,
    ⟨r0_22, k0_pay34 (tailPre i x) (View.ld x.tb r0_20)⟩,
    ⟨r0_21, k0_pay32 (tailPre i x) (View.ld x.tb r0_20)⟩]

/-- Twelve stores of one slab each cover a result block, whatever they hold. -/
theorem slabs_cover (p0 p1 p2 p3 p4 p5 p6 p7 p8 p9 p10 p11 : Vec F S1x240x64 .f32) (y : S12x240x64.Idx) :
    ∃ pc ∈ ([⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩] : List (View.Piece (Elt F) S12x240x64 .f32)), y ∈ pc.1.set :=
  View.cover_of_tiled [⟨r0_32, p0⟩, ⟨r0_31, p1⟩, ⟨r0_30, p2⟩, ⟨r0_29, p3⟩, ⟨r0_28, p4⟩, ⟨r0_27, p5⟩, ⟨r0_26, p6⟩, ⟨r0_25, p7⟩, ⟨r0_24, p8⟩, ⟨r0_23, p9⟩, ⟨r0_22, p10⟩, ⟨r0_21, p11⟩] S1x240x64.size (by rfl) y

/-! ## The body's triple -/

set_option maxHeartbeats 1688400 in
/-- The body, on buffers holding the blocks `x`, runs and leaves the blocks as they were and `headOut`, `tailOut` in its results. -/
theorem body0_runs (c : Dev nD) (E : Set ℕ) (i : grid0.Coords) (a0 : Memref sig .tc .vmem S4x16 .i32) (h0 : a0.IsWhole) (a1 : Memref sig .tc .vmem S4x16 .i32) (h1 : a1.IsWhole) (a2 : Memref sig .tc .vmem S4x16 .i32) (h2 : a2.IsWhole) (a3 : Memref sig .tc .vmem S4x512 .f32) (h3 : a3.IsWhole) (a4 : Memref sig .tc .vmem S1x12x512x512 .f32) (h4 : a4.IsWhole) (a5 : Memref sig .tc .vmem S1x512x768 .f32) (h5 : a5.IsWhole) (a6 : Memref sig .tc .vmem S240x16 .f32) (h6 : a6.IsWhole) (a7 : Memref sig .tc .vmem S240x16 .f32) (h7 : a7.IsWhole) (a8 : Memref sig .tc .vmem S1576x768 .f32) (h8 : a8.IsWhole) (a9 : Memref sig .tc .vmem S768 .f32) (h9 : a9.IsWhole) (a10 : Memref sig .tc .vmem S1576x768 .f32) (h10 : a10.IsWhole) (a11 : Memref sig .tc .vmem S768 .f32) (h11 : a11.IsWhole) (a12 : Memref sig .tc .vmem S7x20 .f32) (h12 : a12.IsWhole) (a13 : Memref sig .tc .vmem S20x20 .f32) (h13 : a13.IsWhole) (a14 : Memref sig .tc .vmem S12x240x64 .f32) (h14 : a14.IsWhole) (a15 : Memref sig .tc .vmem S12x240x64 .f32) (h15 : a15.IsWhole)
    (x : Blocks F) (K : PUnit → sProp 𝕄) :
    iprop(owns (c : Thread nD τ) a0 fullShare x.head ∗ owns (c : Thread nD τ) a1 fullShare x.tail ∗ owns (c : Thread nD τ) a2 fullShare x.kind ∗ owns (c : Thread nD τ) a3 fullShare x.mask ∗ owns (c : Thread nD τ) a4 fullShare x.att ∗ owns (c : Thread nD τ) a5 fullShare x.hid ∗ owns (c : Thread nD τ) a6 fullShare x.pick0 ∗ owns (c : Thread nD τ) a7 fullShare x.pick1 ∗ owns (c : Thread nD τ) a8 fullShare x.hw ∗ owns (c : Thread nD τ) a9 fullShare x.hb ∗ owns (c : Thread nD τ) a10 fullShare x.tw ∗ owns (c : Thread nD τ) a11 fullShare x.tb ∗ owns (c : Thread nD τ) a12 fullShare x.kinds ∗ owns (c : Thread nD τ) a13 fullShare x.dists ∗ (∃ d, owns (c : Thread nD τ) a14 fullShare d) ∗ (∃ d, owns (c : Thread nD τ) a15 fullShare d)
        ∗ (iprop(owns (c : Thread nD τ) a0 fullShare x.head ∗ owns (c : Thread nD τ) a1 fullShare x.tail ∗ owns (c : Thread nD τ) a2 fullShare x.kind ∗ owns (c : Thread nD τ) a3 fullShare x.mask ∗ owns (c : Thread nD τ) a4 fullShare x.att ∗ owns (c : Thread nD τ) a5 fullShare x.hid ∗ owns (c : Thread nD τ) a6 fullShare x.pick0 ∗ owns (c : Thread nD τ) a7 fullShare x.pick1 ∗ owns (c : Thread nD τ) a8 fullShare x.hw ∗ owns (c : Thread nD τ) a9 fullShare x.hb ∗ owns (c : Thread nD τ) a10 fullShare x.tw ∗ owns (c : Thread nD τ) a11 fullShare x.tb ∗ owns (c : Thread nD τ) a12 fullShare x.kinds ∗ owns (c : Thread nD τ) a13 fullShare x.dists ∗ owns (c : Thread nD τ) a14 fullShare (headOut i x) ∗ owns (c : Thread nD τ) a15 fullShare (tailOut i x)) -∗ K ⟨⟩))
      ⊢ wp frame (wpE (defs₀ (F := F)) Variants.none c none) E (cc0__stage1_kernel i a0 h0 a1 h1 a2 h2 a3 h3 a4 h4 a5 h5 a6 h6 a7 h7 a8 h8 a9 h9 a10 h10 a11 h11 a12 h12 a13 h13 a14 h14 a15 h15) K := by
  simp only [cc0__stage1_kernel_eq_skeleton]; unfold cc0__stage1_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  obtain ⟨x0, x1, x2, x3, x4, x5, x6, x7, x8, x9, x10, x11, x12, x13⟩ := x
  dsimp only
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, Hk⟩
  subst e0 e1 e2 e3 e4 e5 e6 e7 e8 e9 e10 e11 e12 e13
  sl_exec
  sl_step
  iapply Hk
  isplitl [H0]; · (iexists f0; isplitr; (· (ipureintro; rfl)); iexact H0)
  isplitl [H1]; · (iexists f1; isplitr; (· (ipureintro; rfl)); iexact H1)
  isplitl [H2]; · (iexists f2; isplitr; (· (ipureintro; rfl)); iexact H2)
  isplitl [H3]; · (iexists f3; isplitr; (· (ipureintro; rfl)); iexact H3)
  isplitl [H4]; · (iexists f4; isplitr; (· (ipureintro; rfl)); iexact H4)
  isplitl [H5]; · (iexists f5; isplitr; (· (ipureintro; rfl)); iexact H5)
  isplitl [H6]; · (iexists f6; isplitr; (· (ipureintro; rfl)); iexact H6)
  isplitl [H7]; · (iexists f7; isplitr; (· (ipureintro; rfl)); iexact H7)
  isplitl [H8]; · (iexists f8; isplitr; (· (ipureintro; rfl)); iexact H8)
  isplitl [H9]; · (iexists f9; isplitr; (· (ipureintro; rfl)); iexact H9)
  isplitl [H10]; · (iexists f10; isplitr; (· (ipureintro; rfl)); iexact H10)
  isplitl [H11]; · (iexists f11; isplitr; (· (ipureintro; rfl)); iexact H11)
  isplitl [H12]; · (iexists f12; isplitr; (· (ipureintro; rfl)); iexact H12)
  isplitl [H13]; · (iexists f13; isplitr; (· (ipureintro; rfl)); iexact H13)
  isplitl [H14]
  · iexists _; isplitr
    swap; · iexact H14
    ipureintro
    refine (View.read_writes_eq_canon _ _ _ (slabs_cover _ _ _ _ _ _ _ _ _ _ _ _)).trans ?_
    rfl
  iexists _; isplitr
  swap; · iexact H15
  ipureintro
  refine (View.read_writes_eq_canon _ _ _ (slabs_cover _ _ _ _ _ _ _ _ _ _ _ _)).trans ?_
  rfl

/-! ## The proof data, at any contents `V` of the buffers on entry -/

variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The fourteen input blocks at point `t`. -/
def blocks (c : Dev nD) (t : Fin cfg0.N) : Blocks F :=
  ⟨blk0 V c 0 t, blk0 V c 1 t, blk0 V c 2 t, blk0 V c 3 t, blk0 V c 4 t, blk0 V c 5 t, blk0 V c 6 t, blk0 V c 7 t, blk0 V c 8 t, blk0 V c 9 t, blk0 V c 10 t, blk0 V c 11 t, blk0 V c 12 t, blk0 V c 13 t⟩

/-- The proof data of the first call: after the body each input's buffer holds its block and each result's what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => blk0 V c 12 t
    | ⟨13, _⟩ => blk0 V c 13 t
    | ⟨14, _⟩ => headOut (grid0.coords t) (blocks V c t)
    | ⟨15, _⟩ => tailOut (grid0.coords t) (blocks V c t)
    | ⟨_ + 16, h⟩ => absurd h (Nat.not_lt.2 (Nat.le_add_left _ _))
  Φ _ := Pipeline.ΦA spec0 c
  q _ := fullShare
  owed _ := 0

/-- The arrays of the proof data are those found on entry. -/
theorem dat0_A (c : Dev nD) (w : Fin cfg0.W) : (dat0 V c).A w = V c (Pipeline.arrRef spec0 w) := by
  dsimp only [dat0]

/-! What the body leaves, window by window. -/

theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = blk0 V c 5 t := by dsimp only [dat0]
theorem dat0_after6 (c : Dev nD) (t : Fin cfg0.N) : (dat0 V c).after 6 t = blk0 V c 6 t := by dsimp only [dat0]
theorem dat0_after7 (c : Dev nD) (t : Fin cfg0.N) : (dat0 V c).after 7 t = blk0 V c 7 t := by dsimp only [dat0]
theorem dat0_after8 (c : Dev nD) (t : Fin cfg0.N) : (dat0 V c).after 8 t = blk0 V c 8 t := by dsimp only [dat0]
theorem dat0_after9 (c : Dev nD) (t : Fin cfg0.N) : (dat0 V c).after 9 t = blk0 V c 9 t := by dsimp only [dat0]
theorem dat0_after10 (c : Dev nD) (t : Fin cfg0.N) : (dat0 V c).after 10 t = blk0 V c 10 t := by dsimp only [dat0]
theorem dat0_after11 (c : Dev nD) (t : Fin cfg0.N) : (dat0 V c).after 11 t = blk0 V c 11 t := by dsimp only [dat0]
theorem dat0_after12 (c : Dev nD) (t : Fin cfg0.N) : (dat0 V c).after 12 t = blk0 V c 12 t := by dsimp only [dat0]
theorem dat0_after13 (c : Dev nD) (t : Fin cfg0.N) : (dat0 V c).after 13 t = blk0 V c 13 t := by dsimp only [dat0]
theorem dat0_after14 (c : Dev nD) (t : Fin cfg0.N) : (dat0 V c).after 14 t = headOut (grid0.coords t) (blocks V c t) := by dsimp only [dat0]
theorem dat0_after15 (c : Dev nD) (t : Fin cfg0.N) : (dat0 V c).after 15 t = tailOut (grid0.coords t) (blocks V c t) := by dsimp only [dat0]

/-! Each input's buffer holds its block at every point, whether it was fetched there or earlier. -/

theorem dat0_before0 (c : Dev nD) (t : Fin cfg0.N) (d) : (dat0 V c).before 0 t d = blk0 V c 0 t :=
  ((dat0 V c).before_in_eq_fetched 0 rfl (fun _ => rfl) (fun _ _ _ => rfl) (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl) (fun t => by rw [dat0_after1]; unfold Dat.blockOf blk0; rw [dat0_A]; try rfl) t d).trans
    (by unfold Dat.fetched Dat.blockOf blk0; rw [dat0_A]; try rfl)
theorem dat0_before2 (c : Dev nD) (t : Fin cfg0.N) (d) : (dat0 V c).before 2 t d = blk0 V c 2 t :=
  ((dat0 V c).before_in_eq_fetched 2 rfl (fun _ => rfl) (fun _ _ _ => rfl) (fun t => by rw [dat0_after2]; unfold Dat.blockOf blk0; rw [dat0_A]; try rfl) t d).trans
    (by unfold Dat.fetched Dat.blockOf blk0; rw [dat0_A]; try rfl)
theorem dat0_before3 (c : Dev nD) (t : Fin cfg0.N) (d) : (dat0 V c).before 3 t d = blk0 V c 3 t :=
  ((dat0 V c).before_in_eq_fetched 3 rfl (fun _ => rfl) (fun _ _ _ => rfl) (fun t => by rw [dat0_after3]; unfold Dat.blockOf blk0; rw [dat0_A]; try rfl) t d).trans
    (by unfold Dat.fetched Dat.blockOf blk0; rw [dat0_A]; try rfl)
theorem dat0_before4 (c : Dev nD) (t : Fin cfg0.N) (d) : (dat0 V c).before 4 t d = blk0 V c 4 t :=
  ((dat0 V c).before_in_eq_fetched 4 rfl (fun _ => rfl) (fun _ _ _ => rfl) (fun t => by rw [dat0_after4]; unfold Dat.blockOf blk0; rw [dat0_A]; try rfl) t d).trans
    (by unfold Dat.fetched Dat.blockOf blk0; rw [dat0_A]; try rfl)
theorem dat0_before5 (c : Dev nD) (t : Fin cfg0.N) (d) : (dat0 V c).before 5 t d = blk0 V c 5 t :=
  ((dat0 V c).before_in_eq_fetched 5 rfl (fun _ => rfl) (fun _ _ _ => rfl) (fun t => by rw [dat0_after5]; unfold Dat.blockOf blk0; rw [dat0_A]; try rfl) t d).trans
    (by unfold Dat.fetched Dat.blockOf blk0; rw [dat0_A]; try rfl)
theorem dat0_before6 (c : Dev nD) (t : Fin cfg0.N) (d) : (dat0 V c).before 6 t d = blk0 V c 6 t :=
  ((dat0 V c).before_in_eq_fetched 6 rfl (fun _ => rfl) (fun _ _ _ => rfl) (fun t => by rw [dat0_after6]; unfold Dat.blockOf blk0; rw [dat0_A]; try rfl) t d).trans
    (by unfold Dat.fetched Dat.blockOf blk0; rw [dat0_A]; try rfl)
theorem dat0_before7 (c : Dev nD) (t : Fin cfg0.N) (d) : (dat0 V c).before 7 t d = blk0 V c 7 t :=
  ((dat0 V c).before_in_eq_fetched 7 rfl (fun _ => rfl) (fun _ _ _ => rfl) (fun t => by rw [dat0_after7]; unfold Dat.blockOf blk0; rw [dat0_A]; try rfl) t d).trans
    (by unfold Dat.fetched Dat.blockOf blk0; rw [dat0_A]; try rfl)
theorem dat0_before8 (c : Dev nD) (t : Fin cfg0.N) (d) : (dat0 V c).before 8 t d = blk0 V c 8 t :=
  ((dat0 V c).before_in_eq_fetched 8 rfl (fun _ => rfl) (fun _ _ _ => rfl) (fun t => by rw [dat0_after8]; unfold Dat.blockOf blk0; rw [dat0_A]; try rfl) t d).trans
    (by unfold Dat.fetched Dat.blockOf blk0; rw [dat0_A]; try rfl)
theorem dat0_before9 (c : Dev nD) (t : Fin cfg0.N) (d) : (dat0 V c).before 9 t d = blk0 V c 9 t :=
  ((dat0 V c).before_in_eq_fetched 9 rfl (fun _ => rfl) (fun _ _ _ => rfl) (fun t => by rw [dat0_after9]; unfold Dat.blockOf blk0; rw [dat0_A]; try rfl) t d).trans
    (by unfold Dat.fetched Dat.blockOf blk0; rw [dat0_A]; try rfl)
theorem dat0_before10 (c : Dev nD) (t : Fin cfg0.N) (d) : (dat0 V c).before 10 t d = blk0 V c 10 t :=
  ((dat0 V c).before_in_eq_fetched 10 rfl (fun _ => rfl) (fun _ _ _ => rfl) (fun t => by rw [dat0_after10]; unfold Dat.blockOf blk0; rw [dat0_A]; try rfl) t d).trans
    (by unfold Dat.fetched Dat.blockOf blk0; rw [dat0_A]; try rfl)
theorem dat0_before11 (c : Dev nD) (t : Fin cfg0.N) (d) : (dat0 V c).before 11 t d = blk0 V c 11 t :=
  ((dat0 V c).before_in_eq_fetched 11 rfl (fun _ => rfl) (fun _ _ _ => rfl) (fun t => by rw [dat0_after11]; unfold Dat.blockOf blk0; rw [dat0_A]; try rfl) t d).trans
    (by unfold Dat.fetched Dat.blockOf blk0; rw [dat0_A]; try rfl)
theorem dat0_before12 (c : Dev nD) (t : Fin cfg0.N) (d) : (dat0 V c).before 12 t d = blk0 V c 12 t :=
  ((dat0 V c).before_in_eq_fetched 12 rfl (fun _ => rfl) (fun _ _ _ => rfl) (fun t => by rw [dat0_after12]; unfold Dat.blockOf blk0; rw [dat0_A]; try rfl) t d).trans
    (by unfold Dat.fetched Dat.blockOf blk0; rw [dat0_A]; try rfl)
theorem dat0_before13 (c : Dev nD) (t : Fin cfg0.N) (d) : (dat0 V c).before 13 t d = blk0 V c 13 t :=
  ((dat0 V c).before_in_eq_fetched 13 rfl (fun _ => rfl) (fun _ _ _ => rfl) (fun t => by rw [dat0_after13]; unfold Dat.blockOf blk0; rw [dat0_A]; try rfl) t d).trans
    (by unfold Dat.fetched Dat.blockOf blk0; rw [dat0_A]; try rfl)

/-! ## The body at any point -/

/-- What the body finds at point `t`. -/
def body0Pre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- What it leaves. -/
def body0Post (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

/-- The body takes the one to the other. -/
theorem body0_sound (c : Dev nD) (t : Fin cfg0.N) :
    body0Pre V c t ⊢ wp frame (wpE (defs₀ (F := F)) Variants.none c none) Set.univ (bodyAt0 t) (fun _ => body0Post V c t) := by
  unfold body0Pre body0Post bodyAt0
  simp only [dat0_before0, dat0_before1, dat0_before2, dat0_before3, dat0_before4, dat0_before5, dat0_before6, dat0_before7, dat0_before8, dat0_before9, dat0_before10, dat0_before11, dat0_before12, dat0_before13]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6, dat0_after7, dat0_after8, dat0_after9, dat0_after10, dat0_after11, dat0_after12, dat0_after13, dat0_after14, dat0_after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body0_runs c Set.univ (grid0.coords t) _ _ _ _ _ _ _ _ _ _ _ _ _ _ _ _ _ _ _ _ _ _ _ _ _ _ _ _ _ _ _ _ (blocks V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · (iexists _; iexact H14)
  isplitl [H15]; · (iexists _; iexact H15)
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The obligation the launch asks of the first call's body. -/
theorem body0_obligation (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body0_sound V c t) rfl .rfl fun _ => .rfl

end Cert.KernelIdeal.Stages

end
-- ==== Proof.Tools.lean ====
/- Facts about words, comparisons and sums over the extended reals that both sides of the value claim use. None of them
   mentions a program. -/
module

public import Idealize.ShloMosaic.Lib.Pointwise

@[expose] public section

set_option maxRecDepth 16384

noncomputable section

namespace Cert.Model

open Idealize.ShloMosaic Idealize.ShloMosaic.TcCoe Idealize.SL.Sem

/-! ## Words and comparisons -/

/-- A choice on an equality of words is the choice on the equality. -/
theorem select_eq {α : Type} {w : Nat} (x y : BitVec w) (a b : α) :
    Scalar.select (IntOp.cmpi .eq x y) a b = if x = y then a else b := by
  by_cases h : x = y
  · simp [Scalar.select, IntOp.cmpi, h]
  · simp [Scalar.select, IntOp.cmpi, h, beq_eq_false_iff_ne.mpr h]

/-- Words of two numbers below `2 ^ 32` agree exactly when the numbers do. -/
theorem word_inj {a b : Nat} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The same for two indices of one small range. -/
theorem word_fin {n : Nat} (hn : n ≤ 2 ^ 32) (a b : Fin n) : BitVec.ofNat 32 a.val = BitVec.ofNat 32 b.val ↔ a = b :=
  (word_inj (lt_of_lt_of_le a.2 hn) (lt_of_lt_of_le b.2 hn)).trans Fin.ext_iff.symm

/-- The word of a small number, as an integer, is the number. -/
theorem word_toInt {a : Nat} (ha : a < 2 ^ 31) : (BitVec.ofNat 32 a).toInt = (a : ℤ) := by
  rw [BitVec.toInt_eq_toNat_of_lt] <;> rw [BitVec.toNat_ofNat, Nat.mod_eq_of_lt (by omega)]
  omega

/-- An equality of words, widened and converted, is one where it holds and zero elsewhere. -/
theorem hot_eq {w : Nat} (x y : BitVec w) :
    (FloatOps.sitofp (F := Ideal) .f32 (BitVec.setWidth 32 (IntOp.cmpi .eq x y)) : EReal) = if x = y then 1 else 0 := by
  show (((BitVec.setWidth 32 (IntOp.cmpi .eq x y)).toInt : ℝ) : EReal) = _
  by_cases h : x = y
  · simp [IntOp.cmpi, h]
  · simp [IntOp.cmpi, h, beq_eq_false_iff_ne.mpr h]

/-- A truth value, widened and converted, is one or zero. -/
theorem hot_decide (p : Prop) [Decidable p] :
    (FloatOps.sitofp (F := Ideal) .f32 (BitVec.setWidth 32 (BitVec.ofBool (decide p))) : EReal) = if p then 1 else 0 := by
  show (((BitVec.setWidth 32 (BitVec.ofBool (decide p))).toInt : ℝ) : EReal) = _
  by_cases h : p <;> simp [h]

/-- Converting a word to a number and back gives the word. -/
theorem word_roundTrip (v : BitVec 32) : Ideal.fptosi 32 ((v.toInt : ℝ) : EReal) = v := by
  have hlo : -(2 ^ 31 : ℤ) ≤ v.toInt := by have := BitVec.le_toInt v; simpa using this
  have hhi : v.toInt < 2 ^ 31 := by have := BitVec.toInt_lt (x := v); simpa using this
  show BitVec.ofInt 32 (max _ (min _ (if (0 : ℝ) ≤ (v.toInt : ℝ) then ⌊(v.toInt : ℝ)⌋ else ⌈(v.toInt : ℝ)⌉))) = v
  rw [Int.floor_intCast, Int.ceil_intCast, ite_self, min_eq_right (by push_cast; omega), max_eq_right (by push_cast; omega),
    BitVec.ofInt_toInt]

/-- The integer part of a small natural number is its word. -/
theorem word_of_nat {n : Nat} (hn : n < 2 ^ 31) : Ideal.fptosi 32 ((n : ℝ) : EReal) = BitVec.ofNat 32 n := by
  have h := word_roundTrip (BitVec.ofNat 32 n)
  rw [word_toInt hn] at h
  simpa using h

/-- Adding words over an axis where all but one are zero gives that one. -/
theorem fold_pick {n : Nat} (b : Fin n) (f : Fin n → BitVec 32) (g : Fin n → BitVec 32)
    (h : ∀ k, g k = if k = b then f k else 0#32) : Finset.fold IntOp.addi (0#32) g Finset.univ = f b := by
  classical
  have e : ∀ s : Finset (Fin n), Finset.fold IntOp.addi (0#32) g s = if b ∈ s then f b else 0#32 := fun s => by
    induction s using Finset.induction_on with
    | empty => simp
    | insert a s ha ih =>
      rw [Finset.fold_insert ha, ih, h a]
      show (if a = b then f a else 0#32) + (if b ∈ s then f b else 0#32) = _
      by_cases hab : a = b
      · subst hab; simp [ha]
      · simp [hab, Ne.symm hab]
  rw [e, if_pos (Finset.mem_univ b)]

/-! ## Sums over the extended reals -/

/-- A sum against a row that is one at `a` and zero elsewhere reads the entry at `a`. -/
theorem sum_hot {n : Nat} (a : Fin n) (h : Fin n → EReal) (f : Fin n → EReal) (e : ∀ k, h k = if k = a then 1 else 0) :
    ∑ k, h k * f k = f a := by
  rw [Finset.sum_congr rfl fun k _ => by rw [e k, ite_mul, one_mul, zero_mul]]
  exact (Finset.sum_ite_eq' Finset.univ a f).trans (if_pos (Finset.mem_univ a))

/-- A sum of entries kept at `a` only is the entry at `a`. -/
theorem sum_keep {n : Nat} (a : Fin n) (h : Fin n → EReal) (f : Fin n → EReal) (e : ∀ k, h k = if k = a then f k else 0) :
    ∑ k, h k = f a := by
  rw [Finset.sum_congr rfl fun k _ => e k]
  exact (Finset.sum_ite_eq' Finset.univ a f).trans (if_pos (Finset.mem_univ a))

/-- A nonnegative finite factor goes into a sum of two. -/
theorem scale_add {c : EReal} (h0 : 0 ≤ c) (ht : c ≠ ⊤) (x y : EReal) : c * (x + y) = c * x + c * y :=
  EReal.left_distrib_of_nonneg_of_ne_top h0 ht x y

/-- A nonnegative finite factor goes into a finite sum. -/
theorem scale_sum {ι : Type} (s : Finset ι) {c : EReal} (h0 : 0 ≤ c) (ht : c ≠ ⊤) (f : ι → EReal) :
    c * ∑ k ∈ s, f k = ∑ k ∈ s, c * f k := by
  classical
  induction s using Finset.induction_on with
  | empty => simp
  | insert a s ha ih => rw [Finset.sum_insert ha, Finset.sum_insert ha, scale_add h0 ht, ih]

/-- A sum against a row that is `c` at `a` plus `c` at `b` is `c` times the two entries' sum. -/
theorem sum_two {n : Nat} (a b : Fin n) {c : EReal} (h0 : 0 ≤ c) (ht : c ≠ ⊤) (h f : Fin n → EReal)
    (e : ∀ k, h k = c * ((if k = a then 1 else 0) + if k = b then 1 else 0)) :
    ∑ k, h k * f k = c * (f a + f b) := by
  have t : ∀ k, h k * f k = c * ((if k = a then 1 else 0) * f k + (if k = b then 1 else 0) * f k) := fun k => by
    rw [e k, mul_assoc, EReal.right_distrib_of_nonneg] <;> split_ifs <;> norm_num
  rw [Finset.sum_congr rfl fun k _ => t k, ← scale_sum _ h0 ht, Finset.sum_add_distrib,
    sum_hot a _ f fun k => rfl, sum_hot b _ f fun k => rfl]

/-! ## The constants -/

/-- One half. -/
abbrev half : EReal := Ideal.ofBits .f32 0x3F000000#32

theorem half_eq : half = (((1 : ℝ) / 2 : ℝ) : EReal) := by
  simp [half, Ideal.ofBits, Ideal.ieee]; rw [← EReal.coe_mul]; norm_num

theorem half_nonneg : 0 ≤ half := by rw [half_eq]; exact_mod_cast (by norm_num : (0 : ℝ) ≤ 1 / 2)

theorem half_ne_top : half ≠ ⊤ := by rw [half_eq]; exact EReal.coe_ne_top _

/-- The nine thresholds of the distance table. -/
theorem thresholds :
    Ideal.ofBits .f32 0x40000000#32 = ((2 : ℝ) : EReal) ∧ Ideal.ofBits .f32 0x40800000#32 = ((4 : ℝ) : EReal)
    ∧ Ideal.ofBits .f32 0x41000000#32 = ((8 : ℝ) : EReal) ∧ Ideal.ofBits .f32 0x41800000#32 = ((16 : ℝ) : EReal)
    ∧ Ideal.ofBits .f32 0x42000000#32 = ((32 : ℝ) : EReal) ∧ Ideal.ofBits .f32 0x42800000#32 = ((64 : ℝ) : EReal)
    ∧ Ideal.ofBits .f32 0x43000000#32 = ((128 : ℝ) : EReal) ∧ Ideal.ofBits .f32 0x43800000#32 = ((256 : ℝ) : EReal)
    ∧ Ideal.ofBits .f32 0x44000000#32 = ((512 : ℝ) : EReal) := by
  refine ⟨?_, ?_, ?_, ?_, ?_, ?_, ?_, ?_, ?_⟩ <;> (simp [Ideal.ofBits, Ideal.ieee]; rw [← EReal.coe_mul]; norm_num)

end Cert.Model

end
-- ==== Proof.Model.lean ====
/- The computation of one example written over plain indices: what both programs are shown to compute. -/
module

public import proofs.«01_k».proof.Proof.Tools

@[expose] public section

noncomputable section

namespace Cert.Model

open Idealize.ShloMosaic Idealize.ShloMosaic.TcCoe Idealize.SL.Sem

/-- One example: its entities' positions and kinds, its mask, attention and hidden states, and the two embedding tables. -/
structure Doc where
  head : Fin 16 → Fin 512
  tail : Fin 16 → Fin 512
  kind : Fin 16 → Fin 7
  mask : Fin 512 → EReal
  att : Fin 12 → Fin 512 → Fin 512 → EReal
  hid : Fin 512 → Fin 768 → EReal
  kinds : Fin 7 → Fin 20 → EReal
  dists : Fin 20 → Fin 20 → EReal

/-- The first entity of a pair: the pairs are in lexicographic order, fifteen to each first entity. -/
def src (p : Fin 240) : Fin 16 := ⟨p.val / 15, by omega⟩

/-- The second entity of a pair: the fifteen others in order, the first entity left out. -/
def dst (p : Fin 240) : Fin 16 := ⟨if p.val / 15 ≤ p.val % 15 then p.val % 15 + 1 else p.val % 15, by split_ifs <;> omega⟩

/-- The small constant added to the sum a row is divided by. -/
abbrev tiny : EReal := Ideal.ofBits .f32 0x1E3CE508#32

/-- How many of the nine thresholds a distance reaches. -/
def bucket (n : ℕ) : Fin 20 :=
  ⟨(if 2 ≤ n then 1 else 0) + (if 4 ≤ n then 1 else 0) + (if 8 ≤ n then 1 else 0) + (if 16 ≤ n then 1 else 0)
    + (if 32 ≤ n then 1 else 0) + (if 64 ≤ n then 1 else 0) + (if 128 ≤ n then 1 else 0) + (if 256 ≤ n then 1 else 0)
    + (if 512 ≤ n then 1 else 0), by split_ifs <;> omega⟩

namespace Doc

variable (D : Doc)

/-- An entity's attention row: the mean of the rows at its head and tail positions, summed over the heads. -/
def entAtt (e : Fin 16) (l : Fin 512) : EReal := half * (∑ h, D.att h (D.head e) l + ∑ h, D.att h (D.tail e) l)

/-- An entity's feature row: the mean of the hidden states at its head and tail positions. -/
def feat (e : Fin 16) (k : Fin 768) : EReal := half * (D.hid (D.head e) k + D.hid (D.tail e) k)

/-- A pair's attention row, masked. -/
def pairAtt (p : Fin 240) (l : Fin 512) : EReal := D.entAtt (src p) l * D.entAtt (dst p) l * D.mask l

/-- A pair's context: the hidden states averaged by its attention row. -/
def info (p : Fin 240) (k : Fin 768) : EReal :=
  ∑ l, Ideal.div (D.pairAtt p l) (∑ l', D.pairAtt p l' + tiny) * D.hid l k

/-- A pair's distance: between the tail of its first entity and the head of its second. -/
def dist (p : Fin 240) : ℕ := (((D.tail (src p)).val : ℤ) - ((D.head (dst p)).val : ℤ)).natAbs

/-- One side's row of a pair before the bias: entity feature, context, kind and distance against the weight. -/
def mix (e : Fin 16) (p : Fin 240) (w : Fin 1576 → Fin 768 → EReal) (j : Fin 768) : EReal :=
  ∑ k : Fin 768, D.feat e k * w ⟨k.val, by omega⟩ j + ∑ k : Fin 768, D.info p k * w ⟨768 + k.val, by omega⟩ j
    + (∑ t : Fin 20, D.kinds (D.kind e) t * w ⟨1536 + t.val, by omega⟩ j
      + ∑ t : Fin 20, D.dists (bucket (D.dist p)) t * w ⟨1556 + t.val, by omega⟩ j)

/-- One side's representation of a pair. -/
def row (e : Fin 16) (p : Fin 240) (w : Fin 1576 → Fin 768 → EReal) (b : Fin 768 → EReal) (j : Fin 768) : EReal :=
  Ideal.tanh (D.mix e p w j + b j)

end Doc

end Cert.Model

end
-- ==== Proof.KernelIdealRows.lean ====
/- What the first call computes at one point, read index by index. -/
module

public import proofs.«01_k».proof.Proof.KernelIdealFirst
public import proofs.«01_k».proof.Proof.Model

@[expose] public section

set_option maxRecDepth 16384

noncomputable section

namespace Cert.KernelIdeal.Stages

open Cert.KernelIdeal Cert.KernelIdeal.Gen Cert.Model
open Idealize.ShloMosaic Idealize.ShloMosaic.TcCoe Idealize.SL.Sem

/-- The blocks of point `b` hold the example `D` and the two pair-picking tables. -/
structure Holds (i : grid0.Coords) (x : Blocks Ideal) (b : Fin 4) (D : Doc) : Prop where
  point : (i 0).val = b.val
  head : ∀ e : Fin 16, x.head (ix2 b e) = BitVec.ofNat 32 (D.head e).val
  tail : ∀ e : Fin 16, x.tail (ix2 b e) = BitVec.ofNat 32 (D.tail e).val
  kind : ∀ e : Fin 16, x.kind (ix2 b e) = BitVec.ofNat 32 (D.kind e).val
  mask : ∀ l : Fin 512, x.mask (ix2 b l) = D.mask l
  att : ∀ (h : Fin 12) (l l' : Fin 512), x.att (ix4 0 h l l') = D.att h l l'
  hid : ∀ (l : Fin 512) (k : Fin 768), x.hid (ix3 0 l k) = D.hid l k
  pick0 : ∀ (p : Fin 240) (e : Fin 16), (x.pick0 (ix2 p e) : EReal) = if e = src p then 1 else 0
  pick1 : ∀ (p : Fin 240) (e : Fin 16), (x.pick1 (ix2 p e) : EReal) = if e = dst p then 1 else 0
  kinds : ∀ (k : Fin 7) (t : Fin 20), x.kinds (ix2 k t) = D.kinds k t
  dists : ∀ (k t : Fin 20), x.dists (ix2 k t) = D.dists k t

variable {i : grid0.Coords} {x : Blocks Ideal} {b : Fin 4} {D : Doc}

/-- The sum over the examples of the entries kept at this one is this one's. -/
theorem pick_batch (hb : (i 0).val = b.val) (f : Fin 4 → BitVec 32) :
    Finset.fold IntOp.addi (0#32) (fun k : Fin 4 =>
      Scalar.select (IntOp.cmpi CmpIPredicate.eq (BitVec.ofNat 32 k.val) (BitVec.ofNat 32 (i 0).val)) (f k) 0#32) Finset.univ
      = f b :=
  fold_pick b f _ fun k => by rw [select_eq, hb]; simp only [word_fin (by norm_num) k b]

/-- The diagonal turns a row into a column. -/
theorem pick_diag (e : Fin 16) (f : Fin 16 → EReal) :
    (∑ k : Fin 16, Scalar.select (IntOp.cmpi CmpIPredicate.eq (BitVec.ofNat 32 e.val) (BitVec.ofNat 32 k.val)) (f k) (0 : EReal)) = f e :=
  sum_keep e _ f fun k => by rw [select_eq]; simp only [word_fin (by norm_num) e k, eq_comm]

/-- The head column holds the head positions. -/
theorem headCol_at (H : Holds i x b D) (e : Fin 16) : headCol i x (ix2 e 0) = (((D.head e).val : ℝ) : EReal) := by
  pointwise [headCol, k0_pay4, k0_pay3]
  refine (pick_diag e _).trans ?_
  rw [pick_batch H.point, H.head]
  show (((BitVec.ofNat 32 (D.head e).val).toInt : ℝ) : EReal) = _
  rw [word_toInt (by have := (D.head e).2; omega)]; norm_cast

/-- The tail column holds the tail positions. -/
theorem tailCol_at (H : Holds i x b D) (e : Fin 16) : tailCol i x (ix2 e 0) = (((D.tail e).val : ℝ) : EReal) := by
  pointwise [tailCol, k0_pay5, k0_pay3]
  refine (pick_diag e _).trans ?_
  rw [pick_batch H.point, H.tail]
  show (((BitVec.ofNat 32 (D.tail e).val).toInt : ℝ) : EReal) = _
  rw [word_toInt (by have := (D.tail e).2; omega)]; norm_cast

/-- The integer head column. -/
theorem headIdx_at (H : Holds i x b D) (e : Fin 16) : headIdx i x (ix2 e 0) = BitVec.ofNat 32 (D.head e).val := by
  show Ideal.fptosi 32 (headCol i x (ix2 e 0)) = _
  rw [headCol_at H, word_of_nat (by have := (D.head e).2; omega)]

/-- The integer tail column. -/
theorem tailIdx_at (H : Holds i x b D) (e : Fin 16) : tailIdx i x (ix2 e 0) = BitVec.ofNat 32 (D.tail e).val := by
  show Ideal.fptosi 32 (tailCol i x (ix2 e 0)) = _
  rw [tailCol_at H, word_of_nat (by have := (D.tail e).2; omega)]

/-- An entity's weights: one half at its head position plus one half at its tail position. -/
theorem spans_at (H : Holds i x b D) (e : Fin 16) (l : Fin 512) :
    (spans i x (ix2 e l) : EReal) = half * ((if l = D.head e then 1 else 0) + if l = D.tail e then 1 else 0) := by
  pointwise [spans, k0_pay11]
  rw [hot_eq, hot_eq, headIdx_at H, tailIdx_at H]
  simp only [word_fin (show 512 ≤ 2 ^ 32 by norm_num)]

/-- The weights against any row: the mean of the entries at the two positions. -/
theorem spans_dot (H : Holds i x b D) (e : Fin 16) (f : Fin 512 → EReal) :
    (∑ l : Fin 512, (spans i x (ix2 e l) : EReal) * f l) = half * (f (D.head e) + f (D.tail e)) :=
  sum_two _ _ half_nonneg half_ne_top _ f fun l => spans_at H e l

/-- The mask row of this example. -/
theorem mask_at (H : Holds i x b D) (l : Fin 512) :
    k0_pay10 (F := Ideal) (BitVec.ofNat 32 (i 0).val) (View.ld x.mask r0_1) (ix2 0 l) = D.mask l := by
  pointwise [k0_pay10]
  refine (sum_keep b _ (fun k => x.mask (ix2 k l)) fun k => ?_).trans (H.mask l)
  rw [select_eq, H.point]; simp only [word_fin (show 4 ≤ 2 ^ 32 by norm_num) k b]

/-- Where an entity's kind is. -/
theorem kindHot_at (H : Holds i x b D) (e : Fin 16) (k : Fin 7) :
    kindHot i x (ix2 e k) = BitVec.setWidth 32 (IntOp.cmpi .eq (BitVec.ofNat 32 k.val) (BitVec.ofNat 32 (D.kind e).val)) := by
  pointwise [kindHot, k0_pay20, k0_pay9, k0_pay8, k0_pay3]
  refine congrArg (fun v => BitVec.setWidth 32 (IntOp.cmpi .eq (BitVec.ofNat 32 k.val) v)) ?_
  refine (congrArg (Ideal.fptosi 32) (pick_diag e _)).trans ?_
  rw [pick_batch H.point, H.kind]
  exact word_roundTrip _

/-- An entity's kind embedding. -/
theorem kindRow_at (H : Holds i x b D) (e : Fin 16) (t : Fin 20) :
    k0_pay21 (F := Ideal) (kindHot i x) (View.ld x.kinds r0_16) (ix2 e t) = D.kinds (D.kind e) t := by
  pointwise [k0_pay21]
  refine (sum_hot (D.kind e) _ (fun k => x.kinds (ix2 k t)) fun k => ?_).trans (H.kinds _ _)
  rw [kindHot_at H, hot_eq]; simp only [word_fin (show 7 ≤ 2 ^ 32 by norm_num)]

/-- The first entity's kind embedding of each pair. -/
theorem kind0_at (H : Holds i x b D) (p : Fin 240) (t : Fin 20) :
    k0_pay22 (F := Ideal) (View.ld x.pick0 r0_15) (kindHot i x) (View.ld x.kinds r0_16) (ix2 p t) = D.kinds (D.kind (src p)) t := by
  pointwise [k0_pay22]
  exact (sum_hot (src p) _ _ fun e => H.pick0 p e).trans (kindRow_at H _ _)

/-- The second entity's kind embedding of each pair. -/
theorem kind1_at (H : Holds i x b D) (p : Fin 240) (t : Fin 20) :
    k0_pay23 (F := Ideal) (View.ld x.pick1 r0_15) (kindHot i x) (View.ld x.kinds r0_16) (ix2 p t) = D.kinds (D.kind (dst p)) t := by
  pointwise [k0_pay23]
  exact (sum_hot (dst p) _ _ fun e => H.pick1 p e).trans (kindRow_at H _ _)

/-- An entity's feature row. -/
theorem featRow_at (H : Holds i x b D) (e : Fin 16) (k : Fin 768) :
    k0_pay16 (F := Ideal) (spans i x) (View.ld x.hid r0_14) (ix2 e k) = D.feat e k := by
  pointwise [k0_pay16, k0_pay15]
  refine (spans_dot H e fun l => x.hid (ix3 0 l k)).trans ?_
  rw [H.hid, H.hid]; rfl

/-- The first entity's feature row of each pair. -/
theorem feat0_at (H : Holds i x b D) (p : Fin 240) (k : Fin 768) :
    k0_pay18 (F := Ideal) (spans i x) (View.ld x.hid r0_14) (View.ld x.pick0 r0_15) (ix2 p k) = D.feat (src p) k := by
  pointwise [k0_pay18]
  exact (sum_hot (src p) _ _ fun e => H.pick0 p e).trans (featRow_at H _ _)

/-- The second entity's feature row of each pair. -/
theorem feat1_at (H : Holds i x b D) (p : Fin 240) (k : Fin 768) :
    k0_pay19 (F := Ideal) (spans i x) (View.ld x.hid r0_14) (View.ld x.pick1 r0_15) (ix2 p k) = D.feat (dst p) k := by
  pointwise [k0_pay19]
  exact (sum_hot (dst p) _ _ fun e => H.pick1 p e).trans (featRow_at H _ _)

/-- The distance of each pair. -/
theorem distance_at (H : Holds i x b D) (p : Fin 240) : (distance i x (ix2 p 0) : EReal) = ((D.dist p : ℝ) : EReal) := by
  pointwise [distance, k0_pay24]
  have h0 : (∑ e : Fin 16, (x.pick0 (ix2 p e) : EReal) * tailCol i x (ix2 e 0)) = (((D.tail (src p)).val : ℝ) : EReal) :=
    (sum_hot (src p) _ _ fun e => H.pick0 p e).trans (tailCol_at H _)
  have h1 : (∑ e : Fin 16, (x.pick1 (ix2 p e) : EReal) * headCol i x (ix2 e 0)) = (((D.head (dst p)).val : ℝ) : EReal) :=
    (sum_hot (dst p) _ _ fun e => H.pick1 p e).trans (headCol_at H _)
  refine (congrArg₂ (fun a c : EReal => max (a - c) (-(a - c))) h0 h1).trans ?_
  rw [← EReal.coe_sub, ← EReal.coe_neg, ← EReal.coe_strictMono.monotone.map_max]
  congr 1
  show |(((D.tail (src p)).val : ℝ) - ((D.head (dst p)).val : ℝ))| = _
  unfold Doc.dist
  rw [Nat.cast_natAbs]; push_cast; rfl

/-- The attention of an entity as the body adds it up, head by head. -/
def attRow (i : grid0.Coords) (x : Blocks Ideal) (e : Fin 16) (l : Fin 512) : EReal :=
  k0_pay14 (F := Ideal) (spans i x) (k0_pay12 (headIdx i x) (tailIdx i x) (View.ld x.att r0_2) (View.ld x.att r0_3))
      (k0_pay13 (headIdx i x) (tailIdx i x) (View.ld x.att r0_4)) (View.ld x.att r0_5) (View.ld x.att r0_6) (View.ld x.att r0_7)
      (View.ld x.att r0_8) (View.ld x.att r0_9) (View.ld x.att r0_10) (ix2 e l)
    + (∑ l' : Fin 512, (spans i x (ix2 e l') : EReal) * x.att (ix4 0 9 l' l))
    + (∑ l' : Fin 512, (spans i x (ix2 e l') : EReal) * x.att (ix4 0 10 l' l))
    + (∑ l' : Fin 512, (spans i x (ix2 e l') : EReal) * x.att (ix4 0 11 l' l))

/-- It is the entity's attention row. -/
theorem attRow_eq (H : Holds i x b D) (e : Fin 16) (l : Fin 512) : attRow i x e l = D.entAtt e l := by
  have s : ∀ h : Fin 12, (∑ l' : Fin 512, (spans i x (ix2 e l') : EReal) * x.att (ix4 0 h l' l))
      = half * (D.att h (D.head e) l + D.att h (D.tail e) l) := fun h =>
    (spans_dot H e fun l' => x.att (ix4 0 h l' l)).trans (by rw [H.att, H.att])
  have t : D.entAtt e l = ∑ h : Fin 12, half * (D.att h (D.head e) l + D.att h (D.tail e) l) := by
    unfold Doc.entAtt
    rw [← Finset.sum_add_distrib, scale_sum _ half_nonneg half_ne_top]
  unfold attRow
  pointwise [k0_pay14, k0_pay12, k0_pay13]
  rw [t, Finset.sum_congr rfl fun h _ => (s h).symm]
  simp only [Fin.sum_univ_castSucc (n := 11), Fin.sum_univ_castSucc (n := 10), Fin.sum_univ_castSucc (n := 9),
    Fin.sum_univ_castSucc (n := 8), Fin.sum_univ_castSucc (n := 7), Fin.sum_univ_castSucc (n := 6), Fin.sum_univ_castSucc (n := 5),
    Fin.sum_univ_castSucc (n := 4), Fin.sum_univ_castSucc (n := 3), Fin.sum_univ_castSucc (n := 2), Fin.sum_univ_castSucc (n := 1),
    Fin.sum_univ_one]
  rfl

/-- A pair's masked attention row as the body computes it. -/
theorem pairRow_eq (H : Holds i x b D) (p : Fin 240) (l : Fin 512) :
    ((∑ e : Fin 16, (x.pick0 (ix2 p e) : EReal) * attRow i x e l) * (∑ e : Fin 16, (x.pick1 (ix2 p e) : EReal) * attRow i x e l)
      * k0_pay10 (F := Ideal) (BitVec.ofNat 32 (i 0).val) (View.ld x.mask r0_1) (ix2 0 l)) = D.pairAtt p l := by
  rw [mask_at H]
  refine congrArg (· * D.mask l) (congrArg₂ (· * ·) ?_ ?_)
  · exact (sum_hot (src p) _ _ fun e => H.pick0 p e).trans (attRow_eq H _ _)
  · exact (sum_hot (dst p) _ _ fun e => H.pick1 p e).trans (attRow_eq H _ _)

/-- A pair's context. -/
theorem info_at (H : Holds i x b D) (p : Fin 240) (k : Fin 768) : (info i x (ix2 p k) : EReal) = D.info p k := by
  pointwise [info, k0_pay17, k0_pay15]
  refine Finset.sum_congr rfl fun l _ => congrArg₂ (· * ·) (congrArg₂ Ideal.div (pairRow_eq H p l)
    (congrArg (· + tiny) (Finset.sum_congr rfl fun l' _ => pairRow_eq H p l'))) (H.hid l k)

/-- A threshold against a distance, over the reals and over the naturals. -/
theorem reach (n t : ℕ) (r : ℝ) (h : (t : ℝ) = r) : ((r : EReal) ≤ ((n : ℝ) : EReal)) ↔ t ≤ n := by
  rw [EReal.coe_le_coe_iff, ← h]; exact Nat.cast_le

/-- The number of thresholds a pair's distance reaches, as the body counts it, is the word of its bucket. -/
theorem bucket_at (H : Holds i x b D) (p : Fin 240) :
    Ideal.fptosi 32 ((bucketSum i x (ix2 p 0) : EReal)
      + FloatOps.sitofp (F := Ideal) .f32 (BitVec.setWidth 32 (farther i x (ix2 p 0)))
      + FloatOps.sitofp (F := Ideal) .f32 (BitVec.setWidth 32 (BitVec.ofBool (decide
          (Ideal.ofBits .f32 0x43800000#32 ≤ (distance i x (ix2 p 0) : EReal)))))
      + FloatOps.sitofp (F := Ideal) .f32 (BitVec.setWidth 32 (BitVec.ofBool (decide
          (Ideal.ofBits .f32 0x44000000#32 ≤ (distance i x (ix2 p 0) : EReal))))))
    = BitVec.ofNat 32 (bucket (D.dist p)).val := by
  have hd : (k0_pay24 (F := Ideal) (headCol i x) (tailCol i x) (View.ld x.pick0 r0_15) (View.ld x.pick1 r0_15) (ix2 p 0) : EReal)
      = ((D.dist p : ℝ) : EReal) := distance_at H p
  obtain ⟨c2, c4, c8, c16, c32, c64, c128, c256, c512⟩ := thresholds
  pointwise [bucketSum, k0_pay25, farther, k0_pay26]
  simp only [hot_decide, hd, distance_at H p, c2, c4, c8, c16, c32, c64, c128, c256, c512]
  rw [← word_of_nat (by have := (bucket (D.dist p)).2; omega)]
  refine congrArg (Ideal.fptosi 32) ?_
  simp only [reach (D.dist p) 2 2 (by norm_num), reach (D.dist p) 4 4 (by norm_num), reach (D.dist p) 8 8 (by norm_num), reach (D.dist p) 16 16 (by norm_num), reach (D.dist p) 32 32 (by norm_num), reach (D.dist p) 64 64 (by norm_num), reach (D.dist p) 128 128 (by norm_num), reach (D.dist p) 256 256 (by norm_num), reach (D.dist p) 512 512 (by norm_num)]
  unfold bucket
  push_cast
  norm_cast

/-- A pair's distance embedding. -/
theorem distRow_at (H : Holds i x b D) (p : Fin 240) (t : Fin 20) :
    k0_pay27 (F := Ideal) (distance i x) (bucketSum i x) (farther i x) (View.ld x.dists r0_17) (ix2 p t)
      = D.dists (bucket (D.dist p)) t := by
  pointwise [k0_pay27]
  refine (sum_hot (bucket (D.dist p)) _ (fun k => x.dists (ix2 k t)) fun k => ?_).trans (H.dists _ _)
  rw [hot_eq]
  refine (if_congr (Iff.of_eq (congrArg (BitVec.ofNat 32 k.val = ·) (bucket_at H p))) rfl rfl).trans ?_
  simp only [word_fin (show 20 ≤ 2 ^ 32 by norm_num)]

/-- The head representation of each pair. -/
theorem headRows_at (H : Holds i x b D) (p : Fin 240) (j : Fin 768) :
    (headRows i x (ix2 p j) : EReal) = D.row (src p) p (fun k j => x.hw (ix2 k j)) (fun j => x.hb (ix1 j)) j := by
  pointwise [headRows, k0_pay28]
  simp only [feat0_at H, info_at H, kind0_at H, distRow_at H]
  unfold Doc.row Doc.mix
  refine congrArg Ideal.tanh (congrArg (· + x.hb (ix1 j)) (congrArg₂ (· + ·) rfl (congrArg₂ (· + ·) rfl ?_)))
  refine Finset.sum_congr rfl fun t _ => congrArg (D.dists (bucket (D.dist p)) t * x.hw ·) ?_
  congr 2; omega

/-- The tail representation of each pair. -/
theorem tailRows_at (H : Holds i x b D) (p : Fin 240) (j : Fin 768) :
    (tailRows i x (ix2 p j) : EReal) = D.row (dst p) p (fun k j => x.tw (ix2 k j)) (fun j => x.tb (ix1 j)) j := by
  pointwise [tailRows, k0_pay30, tailPre, k0_pay29]
  simp only [feat1_at H, info_at H, kind1_at H, distRow_at H]
  unfold Doc.row Doc.mix
  refine congrArg Ideal.tanh (congrArg (· + x.tb (ix1 j)) (congrArg₂ (· + ·) rfl (congrArg₂ (· + ·) rfl ?_)))
  refine Finset.sum_congr rfl fun t _ => congrArg (D.dists (bucket (D.dist p)) t * x.tw ·) ?_
  congr 2; omega

end Cert.KernelIdeal.Stages

end
-- ==== Proof.KernelIdealSecond.lean ====
/- The second kernel call: its body overwrites the result block at the first grid point and adds to it at every later one; what
   the block holds after each point, and the proof that the body runs and leaves exactly that. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
abbrev r1_0 : Rect S1x960x64 := Rect.unit (s := S1x960x64) ![0, 0, 0] S1x960x64.size inb_S1x960x64_S1x960x64_0_0_0
abbrev r1_1 : Rect S64x4096 := Rect.unit (s := S64x4096) ![0, 0] S64x4096.size inb_S64x4096_S64x4096_0_0
abbrev r1_2 : Rect S4096x97 := Rect.unit (s := S4096x97) ![0, 0] S4096x97.size inb_S4096x97_S4096x97_0_0
abbrev r1_3 : Rect S97 := Rect.unit (s := S97) ![0] S97.size inb_S97_S97_0
abbrev r1_4 : Rect S960x97 := Rect.unit (s := S960x97) ![0, 0] S960x97.size inb_S960x97_S960x97_0_0

/-- The blocks the second kernel call reads at one grid point. -/
structure Slabs (F : FTy → Type) [FloatOps F] where
  left : Vec F S1x960x64 .f32
  right : Vec F S1x960x64 .f32
  weight : Vec F S4096x97 .f32
  bias : Vec F S97 .f32
  spread : Vec F S64x4096 .f32

/-- What the body leaves at the first point: the product plus the bias. -/
def firstOut (x : Slabs F) : Vec F S960x97 .f32 :=
  View.canon [⟨r1_4, k1_pay2 (View.ld x.left r1_0) (View.ld x.right r1_0) (View.ld x.spread r1_1) (View.ld x.weight r1_2) (View.ld x.bias r1_3)⟩]

/-- What the body leaves at a later point: what was there plus the product. -/
def nextOut (x : Slabs F) (p : Vec F S960x97 .f32) : Vec F S960x97 .f32 :=
  View.canon [⟨r1_4, k1_pay3 (View.ld x.left r1_0) (View.ld x.right r1_0) (View.ld x.spread r1_1) (View.ld x.weight r1_2) (View.ld p r1_4)⟩]

/-- One store of the whole block covers it. -/
theorem whole_cover (p : Vec F S960x97 .f32) (y : S960x97.Idx) :
    ∃ pc ∈ ([⟨r1_4, p⟩] : List (View.Piece (Elt F) S960x97 .f32)), y ∈ pc.1.set :=
  View.cover_of_tiled [⟨r1_4, p⟩] S960x97.size (by rfl) y

/-! ## When the two branches are taken -/

/-- The first branch is taken at the first point only. -/
theorem first_iff : ∀ t : Fin cfg1.N, k1_cond1 (grid1.coords t) = 1#1 ↔ t.val = 0 :=
  (by decide +kernel : ∀ t : Fin grid1.N, k1_cond1 (grid1.coords t) = 1#1 ↔ t.val = 0)
/-- The second branch is taken at every later point. -/
theorem later_iff : ∀ t : Fin cfg1.N, k1_cond2 (grid1.coords t) = 1#1 ↔ 1 ≤ t.val :=
  (by decide +kernel : ∀ t : Fin grid1.N, k1_cond2 (grid1.coords t) = 1#1 ↔ 1 ≤ t.val)
/-- The body stores into the result block at every point. -/
theorem result_live : ∀ t : Fin cfg1.N, cfg1.idle 5 (grid1.coords t) = false := by decide +kernel
/-- The result block is fresh on entry alone among the points, as it is written back after the last one only. -/
def freshTab : ℕ → Bool
  | 0 => true
  | n + 1 => (0x800 : ℕ).testBit n
theorem freshTab_step : ∀ t : Fin cfg1.N,
    freshTab (t.val + 1) = ((cfg1.win 5).flush t || (cfg1.idle 5 (cfg1.grid.coords t) && freshTab t.val)) := by decide +kernel
theorem not_fresh : ∀ t : Fin cfg1.N, 1 ≤ t.val → cfg1.fresh 5 t.val = false := by
  intro t
  rw [show cfg1.fresh 5 t.val = freshTab t.val from Pipeline.Cfg.fresh_tab cfg1 5 freshTab rfl freshTab_step t.val (Nat.le_of_lt t.isLt)]
  revert t; decide +kernel

/-! ## The body's triple, branch by branch -/

set_option maxHeartbeats 1000000 in
/-- At the first point the body leaves `firstOut` in the result block, whatever it held. -/
theorem body1_first (c : Dev nD) (E : Set ℕ) (i : grid1.Coords) (a0 : Memref sig .tc .vmem S1x960x64 .f32) (h0 : a0.IsWhole) (a1 : Memref sig .tc .vmem S1x960x64 .f32) (h1 : a1.IsWhole) (a2 : Memref sig .tc .vmem S4096x97 .f32) (h2 : a2.IsWhole) (a3 : Memref sig .tc .vmem S97 .f32) (h3 : a3.IsWhole) (a4 : Memref sig .tc .vmem S64x4096 .f32) (h4 : a4.IsWhole) (a5 : Memref sig .tc .vmem S960x97 .f32) (h5 : a5.IsWhole)
    (hc1 : k1_cond1 i = 1#1) (hc2 : ¬k1_cond2 i = 1#1) (x : Slabs F) (K : PUnit → sProp 𝕄) :
    iprop(owns (c : Thread nD τ) a0 fullShare x.left ∗ owns (c : Thread nD τ) a1 fullShare x.right ∗ owns (c : Thread nD τ) a2 fullShare x.weight ∗ owns (c : Thread nD τ) a3 fullShare x.bias ∗ owns (c : Thread nD τ) a4 fullShare x.spread ∗ (∃ d, owns (c : Thread nD τ) a5 fullShare d)
        ∗ (iprop(owns (c : Thread nD τ) a0 fullShare x.left ∗ owns (c : Thread nD τ) a1 fullShare x.right ∗ owns (c : Thread nD τ) a2 fullShare x.weight ∗ owns (c : Thread nD τ) a3 fullShare x.bias ∗ owns (c : Thread nD τ) a4 fullShare x.spread ∗ owns (c : Thread nD τ) a5 fullShare (firstOut x)) -∗ K ⟨⟩))
      ⊢ wp frame (wpE (defs₀ (F := F)) Variants.none c none) E (cc1__stage2_kernel i a0 h0 a1 h1 a2 h2 a3 h3 a4 h4 a5 h5) K := by
  simp only [cc1__stage2_kernel_eq_skeleton]; unfold cc1__stage2_kernel_skel
  obtain ⟨x0, x1, x2, x3, x4⟩ := x
  dsimp only
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec (disch := first | sl_exact hc1 | sl_exact hc2)
  sl_step
  iapply Hk
  isplitl [H0]; · (iexists f0; isplitr; (· (ipureintro; rfl)); iexact H0)
  isplitl [H1]; · (iexists f1; isplitr; (· (ipureintro; rfl)); iexact H1)
  isplitl [H2]; · (iexists f2; isplitr; (· (ipureintro; rfl)); iexact H2)
  isplitl [H3]; · (iexists f3; isplitr; (· (ipureintro; rfl)); iexact H3)
  isplitl [H4]; · (iexists f4; isplitr; (· (ipureintro; rfl)); iexact H4)
  iexists _; isplitr
  swap; · iexact H5
  ipureintro
  refine (View.read_writes_eq_canon _ _ _ (whole_cover _)).trans ?_
  rfl

set_option maxHeartbeats 1000000 in
/-- At a later point the body, finding `p` in the result block, leaves `nextOut` there. -/
theorem body1_next (c : Dev nD) (E : Set ℕ) (i : grid1.Coords) (a0 : Memref sig .tc .vmem S1x960x64 .f32) (h0 : a0.IsWhole) (a1 : Memref sig .tc .vmem S1x960x64 .f32) (h1 : a1.IsWhole) (a2 : Memref sig .tc .vmem S4096x97 .f32) (h2 : a2.IsWhole) (a3 : Memref sig .tc .vmem S97 .f32) (h3 : a3.IsWhole) (a4 : Memref sig .tc .vmem S64x4096 .f32) (h4 : a4.IsWhole) (a5 : Memref sig .tc .vmem S960x97 .f32) (h5 : a5.IsWhole)
    (hc1 : ¬k1_cond1 i = 1#1) (hc2 : k1_cond2 i = 1#1) (x : Slabs F) (p : Vec F S960x97 .f32) (K : PUnit → sProp 𝕄) :
    iprop(owns (c : Thread nD τ) a0 fullShare x.left ∗ owns (c : Thread nD τ) a1 fullShare x.right ∗ owns (c : Thread nD τ) a2 fullShare x.weight ∗ owns (c : Thread nD τ) a3 fullShare x.bias ∗ owns (c : Thread nD τ) a4 fullShare x.spread ∗ owns (c : Thread nD τ) a5 fullShare p
        ∗ (iprop(owns (c : Thread nD τ) a0 fullShare x.left ∗ owns (c : Thread nD τ) a1 fullShare x.right ∗ owns (c : Thread nD τ) a2 fullShare x.weight ∗ owns (c : Thread nD τ) a3 fullShare x.bias ∗ owns (c : Thread nD τ) a4 fullShare x.spread ∗ owns (c : Thread nD τ) a5 fullShare (nextOut x p)) -∗ K ⟨⟩))
      ⊢ wp frame (wpE (defs₀ (F := F)) Variants.none c none) E (cc1__stage2_kernel i a0 h0 a1 h1 a2 h2 a3 h3 a4 h4 a5 h5) K := by
  simp only [cc1__stage2_kernel_eq_skeleton]; unfold cc1__stage2_kernel_skel
  obtain ⟨x0, x1, x2, x3, x4⟩ := x
  dsimp only
  unfold owns
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0 e1 e2 e3 e4 e5
  sl_exec (disch := first | sl_exact hc1 | sl_exact hc2)
  sl_step
  iapply Hk
  isplitl [H0]; · (iexists f0; isplitr; (· (ipureintro; rfl)); iexact H0)
  isplitl [H1]; · (iexists f1; isplitr; (· (ipureintro; rfl)); iexact H1)
  isplitl [H2]; · (iexists f2; isplitr; (· (ipureintro; rfl)); iexact H2)
  isplitl [H3]; · (iexists f3; isplitr; (· (ipureintro; rfl)); iexact H3)
  isplitl [H4]; · (iexists f4; isplitr; (· (ipureintro; rfl)); iexact H4)
  iexists _; isplitr
  swap; · iexact H5
  ipureintro
  refine (View.read_writes_eq_canon _ _ _ (whole_cover _)).trans ?_
  rfl

/-! ## The proof data, at any contents `V` of the buffers on entry -/

variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at point `t`. -/
def slabs (c : Dev nD) (t : Fin cfg1.N) : Slabs F :=
  ⟨blk1 V c 0 t, blk1 V c 1 t, blk1 V c 2 t, blk1 V c 3 t, blk1 V c 4 t⟩

/-- What the result block holds after point `n`: the first point's contents, with each later point's product added. -/
def total (c : Dev nD) : (n : ℕ) → n < cfg1.N → Vec F S960x97 .f32
  | 0, h => firstOut (slabs V c ⟨0, h⟩)
  | n + 1, h => nextOut (slabs V c ⟨n + 1, h⟩) (total c n (Nat.lt_of_succ_lt h))

theorem total_zero (c : Dev nD) (t : Fin cfg1.N) (h : t.val = 0) : total V c t.val t.isLt = firstOut (slabs V c t) := by
  obtain ⟨n, hn⟩ := t
  cases n with
  | zero => rfl
  | succ n => exact absurd h (Nat.succ_ne_zero n)

theorem total_succ (c : Dev nD) (t : Fin cfg1.N) (h : 1 ≤ t.val) :
    total V c t.val t.isLt = nextOut (slabs V c t) (total V c (t.val - 1) (Nat.lt_of_le_of_lt (Nat.sub_le _ _) t.isLt)) := by
  obtain ⟨n, hn⟩ := t
  cases n with
  | zero => exact absurd h (Nat.not_succ_le_zero 0)
  | succ n => rfl

/-- The proof data of the second call: after the body each input's buffer holds its block and the result's holds `total`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => total V c t.val t.isLt
  Φ _ := Pipeline.ΦA spec1 c
  q _ := fullShare
  owed _ := 0

/-- The arrays of the proof data are those found on entry. -/
theorem dat1_A (c : Dev nD) (w : Fin cfg1.W) : (dat1 V c).A w = V c (Pipeline.arrRef spec1 w) := by
  dsimp only [dat1]

/-! What the body leaves, window by window. -/

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = total V c t.val t.isLt := by dsimp only [dat1]

/-! Each input's buffer holds its block at every point, whether it was fetched there or earlier. -/

theorem dat1_before0 (c : Dev nD) (t : Fin cfg1.N) (d) : (dat1 V c).before 0 t d = blk1 V c 0 t :=
  ((dat1 V c).before_in_eq_fetched 0 rfl (fun _ => rfl) (fun _ _ _ => rfl) (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl) (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl) (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl) (fun t => by rw [dat1_after3]; unfold Dat.blockOf blk1; rw [dat1_A]; try rfl) t d).trans
    (by unfold Dat.fetched Dat.blockOf blk1; rw [dat1_A]; try rfl)
theorem dat1_before4 (c : Dev nD) (t : Fin cfg1.N) (d) : (dat1 V c).before 4 t d = blk1 V c 4 t :=
  ((dat1 V c).before_in_eq_fetched 4 rfl (fun _ => rfl) (fun _ _ _ => rfl) (fun t => by rw [dat1_after4]; unfold Dat.blockOf blk1; rw [dat1_A]; try rfl) t d).trans
    (by unfold Dat.fetched Dat.blockOf blk1; rw [dat1_A]; try rfl)
/-- At a later point the result's buffer holds what the point before left. -/
theorem dat1_before5 (c : Dev nD) (t : Fin cfg1.N) (h : 1 ≤ t.val) (d) :
    (dat1 V c).before 5 t d = total V c (t.val - 1) (Nat.lt_of_le_of_lt (Nat.sub_le _ _) t.isLt) := by
  rw [Dat.before_out_traj _ 5 rfl (fun _ _ => rfl)
      (fun t _ hi _ => absurd ((result_live t).symm.trans hi) Bool.false_ne_true) t.val t rfl d,
    if_neg (by rw [not_fresh t h]; exact Bool.false_ne_true)]
  dsimp only [dat1]

/-! ## The body at any point -/

/-- What the body finds at point `t`. -/
def body1Pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it leaves. -/
def body1Post (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- An input is left at its block. -/
theorem leaves_of_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 800000 in
/-- The body takes the one to the other. -/
theorem body1_sound (c : Dev nD) (t : Fin cfg1.N) :
    body1Pre V c t ⊢ wp frame (wpE (defs₀ (F := F)) Variants.none c none) Set.univ (bodyAt1 t) (fun _ => body1Post V c t) := by
  unfold body1Pre body1Post bodyAt1
  simp only [dat1_before0, dat1_before1, dat1_before2, dat1_before3, dat1_before4]
  rw [show (dat1 V c).Φ t.succ = (dat1 V c).Φ t.castSucc from rfl,
    show (dat1 V c).owesAt () t.succ = (dat1 V c).owesAt () t.castSucc from rfl,
    leaves_of_live V c 0 t rfl, dat1_after0,
    leaves_of_live V c 1 t rfl, dat1_after1,
    leaves_of_live V c 2 t rfl, dat1_after2,
    leaves_of_live V c 3 t rfl, dat1_after3,
    leaves_of_live V c 4 t rfl, dat1_after4,
    leaves_of_live V c 5 t (result_live t), dat1_after5]
  by_cases h : t.val = 0
  · rw [total_zero V c t h]
    iintro ⟨HΦ, Ho, ⟨%d0, H0⟩, ⟨%d1, H1⟩, ⟨%d2, H2⟩, ⟨%d3, H3⟩, ⟨%d4, H4⟩, ⟨%d5, H5⟩⟩
    iapply (body1_first c Set.univ (grid1.coords t) _ _ _ _ _ _ _ _ _ _ _ _ ((first_iff t).mpr h) (fun e => by have := (later_iff t).mp e; omega) (slabs V c t) _)
    isplitl [H0]; · iexact H0
    isplitl [H1]; · iexact H1
    isplitl [H2]; · iexact H2
    isplitl [H3]; · iexact H3
    isplitl [H4]; · iexact H4
    isplitl [H5]; · (iexists _; iexact H5)
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h' : 1 ≤ t.val := Nat.one_le_iff_ne_zero.mpr h
    rw [total_succ V c t h']
    simp only [dat1_before5 V c t h']
    iintro ⟨HΦ, Ho, ⟨%d0, H0⟩, ⟨%d1, H1⟩, ⟨%d2, H2⟩, ⟨%d3, H3⟩, ⟨%d4, H4⟩, ⟨%d5, H5⟩⟩
    iapply (body1_next c Set.univ (grid1.coords t) _ _ _ _ _ _ _ _ _ _ _ _ (fun e => h ((first_iff t).mp e)) ((later_iff t).mpr h') (slabs V c t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The obligation the launch asks of the second call's body. -/
theorem body1_obligation (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (body1_sound V c t) rfl .rfl fun _ => .rfl

end Cert.KernelIdeal.Stages

end
-- ==== Proof.KernelIdealRun.lean ====
/- The whole program run: from any memory with its counters at zero it ends, faults nowhere, leaves every argument and every
   counter as it was, and leaves in its result what the second call wrote back. -/
module

public import proofs.«01_k».proof.Proof.KernelIdealFirst
public import proofs.«01_k».proof.Proof.KernelIdealSecond

@[expose] public section

set_option maxRecDepth 16384

noncomputable section

namespace Cert.KernelIdeal.Stages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's argument arrays. -/
abbrev argRefs : List (Ref sig .tc) := [main_arg0, main_arg1, main_arg2, main_arg3, main_arg4, main_arg5, main_arg6, main_arg7, main_arg8, main_arg9, main_arg10, main_arg11, main_arg12, main_arg13]

/-- The constants before the calls allocate nothing. -/
theorem hostOps0_fresh : (hostOps0 : List (HloOp τ sig (Elt F))).Forall fun op => op.fresh = ∅ := by
  simp only [List.Forall]; repeat' constructor
/-- The arrays they write. -/
abbrev hostOps0_W : List (Ref sig .tc) := [main_cst, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- None of them is an argument. -/
theorem hostOps0_args : ∀ a ∈ argRefs, a ∉ hostOps0_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers when the first call is entered. -/
abbrev W1 : Dev nD → Valuation τ sig (Elt F) := fun c => StableHlo.after hostOps0 (W0 m ρ c)
/-- A buffer the constants do not write is as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, by reference. -/
abbrev V1 : (c : Dev nD) → (b : Ref sig .tc) → Buf (Elt F) ((c : Thread nD τ).loc b) := fun c b => W1 m ρ c b
/-- The buffers after the first call: the first call's arrays at what it wrote back, the rest as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer the first call does not write is as it was. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (dat0_A (V1 m ρ) c w))
  · exact W2_of_ne m ρ c r fun w e => hw ⟨w, e⟩
/-- The first call writes no argument. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, by reference. -/
abbrev V2 : (c : Dev nD) → (b : Ref sig .tc) → Buf (Elt F) ((c : Thread nD τ).loc b) := fun c b => W2 m ρ c b
/-- The first call's arrays hold what it leaves; the rest is as before. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The operations between the calls, which build the spreading table, allocate nothing. -/
theorem hostOps1_fresh : (hostOps1 : List (HloOp τ sig (Elt F))).Forall fun op => op.fresh = ∅ := by
  simp only [List.Forall]; repeat' constructor
/-- The arrays they write. -/
abbrev hostOps1_W : List (Ref sig .tc) := [main_v1, main_v2, main_v3, main_v4, main_v5]
theorem hostOps1_writes : (hostOps1 : List (HloOp τ sig (Elt F))).Forall fun op => op.writes ⊆ (hostOps1_W.map (Proc.devRef (τ := τ) .tc)).toFinset :=
  StableHlo.forall_writes_sub_of_map rfl
/-- None of them is an argument. -/
theorem hostOps1_args : ∀ a ∈ argRefs, a ∉ hostOps1_W := ListAll.forall_mem_of_all_decide (by decide +kernel)
/-- The buffers when the second call is entered. -/
abbrev Wk : Dev nD → Valuation τ sig (Elt F) := fun c => StableHlo.after hostOps1 (W2 m ρ c)
/-- A buffer those operations do not write is as the first call left it. -/
theorem Wk_of (c : Dev nD) (r : Ref sig .tc) (h : r ∉ hostOps1_W) : Wk m ρ c (Proc.devRef .tc r) = W2 m ρ c (Proc.devRef .tc r) :=
  StableHlo.after_of_writes_sub hostOps1 _ hostOps1_writes h
theorem Wk_args (c : Dev nD) : ∀ a ∈ argRefs, Wk m ρ c (Proc.devRef .tc a) = m ((c : Thread nD τ).loc a) :=
  fun a ha => (Wk_of m ρ c a (hostOps1_args a ha)).trans (W2_args m ρ c a ha)
/-- The same, by reference. -/
abbrev Vk : (c : Dev nD) → (b : Ref sig .tc) → Buf (Elt F) ((c : Thread nD τ).loc b) := fun c b => Wk m ρ c b

/-- The buffers at the end: the second call's arrays at what it wrote back, the rest as before. -/
def W3 (c : Dev nD) : Valuation τ sig (Elt F) :=
  Pipeline.withArrays spec1 c (Wk m ρ c) fun w => (dat1 (Vk m ρ) c).arrAt w cfg1.N
theorem W3_arr (c : Dev nD) (w : Fin cfg1.W) :
    W3 m ρ c (Proc.devRef .tc (Pipeline.arrRef spec1 w)) = (dat1 (Vk m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = Wk m ρ c (Proc.devRef .tc b) := by
  unfold W3; exact Pipeline.withArrays_of_ne spec1 c _ _ b hb
/-- A buffer the second call does not write is as it was. -/
theorem W3_of (c : Dev nD) (r : Ref sig .tc) (h : ∀ w : Fin cfg1.W, Pipeline.arrRef spec1 w = r → (cfg1.win w).isOut = false) :
    W3 m ρ c (Proc.devRef .tc r) = Wk m ρ c (Proc.devRef .tc r) := by
  by_cases hw : ∃ w : Fin cfg1.W, Pipeline.arrRef spec1 w = r
  · obtain ⟨w, rfl⟩ := hw
    exact (W3_arr m ρ c w).trans (((dat1 (Vk m ρ) c).arrAt_in w (h w rfl) _).trans (dat1_A (Vk m ρ) c w))
  · exact W3_of_ne m ρ c r fun w e => hw ⟨w, e⟩
/-- The second call writes no argument. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (Wk_args m ρ c a ha)
/-- The same, by reference. -/
abbrev V3 : (c : Dev nD) → (b : Ref sig .tc) → Buf (Elt F) ((c : Thread nD τ).loc b) := fun c b => W3 m ρ c b
/-- The second call's arrays hold what it leaves; the rest is as before. -/
theorem hF1 (c : Dev nD) (w : Fin cfg1.W) : (dat1 (Vk m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = Vk m ρ c b :=
  fun b hb => W3_of_ne m ρ c b fun w e => hb (Finset.mem_image.mpr ⟨w, Finset.mem_univ _, e⟩)

/-- No call has a prefetched table. -/
abbrev adm : (p : Fin 2) → (pcfgs (F := F) p).Adm := fun p => (cfgs p).toPCfg_adm
/-- The proof data of the two calls. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (Vk m ρ) c
abbrev 𝒱₀ : Variants := Variants.none
/-- Nobody owes anything. -/
abbrev L : GSem nD τ sig → Finset Unit := fun _ => ∅
abbrev lv : GSem nD τ sig → Unit → ℕ := fun _ _ => 0
/-- What rides along: the generator register and that nothing is owed. -/
abbrev R (c : Dev nD) : sProp 𝕄 := iprop((∃ r, prngReg c r) ∗ ∃ W, owes (c : Thread nD τ) (0 : CellTallies nD τ sig Unit) W)
/-- A stretch of operations outside the calls as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that outlives the calls is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The first call as a segment: its arrays are taken out of the buffers and put back as it leaves them. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (dat0_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment, likewise. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (Vk m ρ) c).loose
  hwaits := Pipeline.hwaits_of_owed_zero _ _ _ _ L lv 1 fun _ _ => rfl
  pre c := iprop(StableHlo.held (c : Thread nD τ) (Pipeline.ucRefs τ sig) (Wk m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vk m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk m ρ c) (dat1_A (Vk m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

/-- No counter outlives the calls. -/
theorem no_unscoped : ∀ sm : SemLoc sig, sm.isScoped .tc = true := by decide

set_option backward.isDefEq.respectTransparency.types false in
/-- The run: every final state has each buffer that outlives the calls at its last contents, and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- At the end each argument is as launched. -/
theorem W3_arg (c : Dev nD) (a : Ref sig .tc) (h : a ∈ argRefs) (hs : ¬ (Proc.devRef .tc a : DevRef τ sig).isScoped)
    {s : MemSt nD τ sig (Elt F)} (hr : ∀ b ∈ Pipeline.ucRefs τ sig, s.mem (((c : Thread nD τ)).1, b) = W3 m ρ c b) :
    s.mem ((c.tc : Thread nD τ).loc a) = m ((c.tc : Thread nD τ).loc a) :=
  (hr _ (mem_uc a hs)).trans (W3_args m ρ c a h)

/-- What the program leaves in its result array: the second call's write-backs, the first call's having gone before. -/
def result (c : Dev nD) : Buf (Elt F) ((c.tc : Thread nD τ).loc main_v6) := (dat1 (Vk m ρ) c).arrAt 5 cfg1.N

/-- The run with the result named and the arguments unchanged. -/
theorem run_result : θ_run defs (onTc (τ := τ) (main (F := F))) ⟨m, fun _ => 0, ρ⟩ (fun r => ∀ c : Dev nD,
      r.2.mem ((c.tc : Thread nD τ).loc main_v6) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h.1 c _ (mem_uc main_v6 (by decide))).trans (W3_arr m ρ c 5),
    W3_arg m ρ c main_arg0 (by decide) (by decide) (h.1 c),
    W3_arg m ρ c main_arg1 (by decide) (by decide) (h.1 c),
    W3_arg m ρ c main_arg2 (by decide) (by decide) (h.1 c),
    W3_arg m ρ c main_arg3 (by decide) (by decide) (h.1 c),
    W3_arg m ρ c main_arg4 (by decide) (by decide) (h.1 c),
    W3_arg m ρ c main_arg5 (by decide) (by decide) (h.1 c),
    W3_arg m ρ c main_arg6 (by decide) (by decide) (h.1 c),
    W3_arg m ρ c main_arg7 (by decide) (by decide) (h.1 c),
    W3_arg m ρ c main_arg8 (by decide) (by decide) (h.1 c),
    W3_arg m ρ c main_arg9 (by decide) (by decide) (h.1 c),
    W3_arg m ρ c main_arg10 (by decide) (by decide) (h.1 c),
    W3_arg m ρ c main_arg11 (by decide) (by decide) (h.1 c),
    W3_arg m ρ c main_arg12 (by decide) (by decide) (h.1 c),
    W3_arg m ρ c main_arg13 (by decide) (by decide) (h.1 c)⟩) (run m ρ)

/-- The arguments and the counters end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨
    W3_arg m ρ c main_arg0 (by decide) (by decide) (h.1 c),
    W3_arg m ρ c main_arg1 (by decide) (by decide) (h.1 c),
    W3_arg m ρ c main_arg2 (by decide) (by decide) (h.1 c),
    W3_arg m ρ c main_arg3 (by decide) (by decide) (h.1 c),
    W3_arg m ρ c main_arg4 (by decide) (by decide) (h.1 c),
    W3_arg m ρ c main_arg5 (by decide) (by decide) (h.1 c),
    W3_arg m ρ c main_arg6 (by decide) (by decide) (h.1 c),
    W3_arg m ρ c main_arg7 (by decide) (by decide) (h.1 c),
    W3_arg m ρ c main_arg8 (by decide) (by decide) (h.1 c),
    W3_arg m ρ c main_arg9 (by decide) (by decide) (h.1 c),
    W3_arg m ρ c main_arg10 (by decide) (by decide) (h.1 c),
    W3_arg m ρ c main_arg11 (by decide) (by decide) (h.1 c),
    W3_arg m ρ c main_arg12 (by decide) (by decide) (h.1 c),
    W3_arg m ρ c main_arg13 (by decide) (by decide) (h.1 c)⟩, h.2⟩) (run m ρ)

end Cert.KernelIdeal.Stages

end
-- ==== Proof.KernelIdealOut.lean ====
/- What the first call leaves in its two result arrays, and what its blocks are at each grid point, entry by entry. -/
module

public import proofs.«01_k».proof.Proof.KernelIdealRows
public import proofs.«01_k».proof.Proof.KernelIdealRun
public import Idealize.ShloMosaic.Lib.Pipeline.ValueKit

@[expose] public section

set_option maxRecDepth 16384

noncomputable section

namespace Cert.KernelIdeal.Stages

open Cert.KernelIdeal Cert.KernelIdeal.Gen Cert.Model
open Idealize.ShloMosaic Idealize.ShloMosaic.TcCoe Idealize.SL.Sem

section Slabs

variable {i : grid0.Coords} {x : Blocks Ideal}

/-- The head result block holds the pairs' head representations, 64 columns to a slab. -/
theorem headOut_at (y : S12x240x64.Idx) (z : S240x768.Idx) (h0 : (z 0).val = (y 1).val) (h1 : (z 1).val = (y 0).val * 64 + (y 2).val) :
    headOut i x y = headRows i x z := by
  unfold headOut
  generalize headRows i x = R
  canon_tiles u h
  all_goals (open_payloads; pointwise; blk_ext)

/-- The tail result block holds the pairs' tail representations, 64 columns to a slab. -/
theorem tailOut_at (y : S12x240x64.Idx) (z : S240x768.Idx) (h0 : (z 0).val = (y 1).val) (h1 : (z 1).val = (y 0).val * 64 + (y 2).val) :
    tailOut i x y = tailRows i x z := by
  unfold tailOut
  rw [show k0_pay36 (tailPre i x) (View.ld x.tb r0_20) = shapeCast S1x240x64 (extractStridedSlice S240x64 ![0, 128] (tailRows i x) slices_S240x768_o0_128_S240x64) shapeCasts_S240x64_S1x240x64 from rfl,
    show k0_pay34 (tailPre i x) (View.ld x.tb r0_20) = shapeCast S1x240x64 (extractStridedSlice S240x64 ![0, 64] (tailRows i x) slices_S240x768_o0_64_S240x64) shapeCasts_S240x64_S1x240x64 from rfl,
    show k0_pay32 (tailPre i x) (View.ld x.tb r0_20) = shapeCast S1x240x64 (extractStridedSlice S240x64 ![0, 0] (tailRows i x) slices_S240x768_o0_0_S240x64) shapeCasts_S240x64_S1x240x64 from rfl]
  generalize tailRows i x = R
  canon_tiles u h
  all_goals (open_payloads; pointwise; blk_ext)

end Slabs

section Reads

variable {F : FTy → Type} [FloatOps F] (V : (c : Dev nD) → (b : Ref sig .tc) → Buf (Elt F) ((c : Thread nD τ).loc b)) (c : Dev nD) (t : Fin cfg0.N)

/-! ## The index maps of the first call's windows -/

theorem index0_0 : ∀ t : Fin cfg0.N, win0_0.index t = ![0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0, 0, 0] := (by decide +kernel : ∀ t : Fin grid0.N, _)
theorem index0_5 : ∀ t : Fin cfg0.N, win0_5.index t = ![t.val, 0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![0, 0] := (by decide +kernel : ∀ t : Fin grid0.N, _)
theorem index0_8 : ∀ t : Fin cfg0.N, win0_8.index t = ![0, 0] := (by decide +kernel : ∀ t : Fin grid0.N, _)
theorem index0_9 : ∀ t : Fin cfg0.N, win0_9.index t = ![0] := (by decide +kernel : ∀ t : Fin grid0.N, _)
theorem index0_10 : ∀ t : Fin cfg0.N, win0_10.index t = ![0, 0] := (by decide +kernel : ∀ t : Fin grid0.N, _)
theorem index0_11 : ∀ t : Fin cfg0.N, win0_11.index t = ![0] := (by decide +kernel : ∀ t : Fin grid0.N, _)
theorem index0_12 : ∀ t : Fin cfg0.N, win0_12.index t = ![0, 0] := (by decide +kernel : ∀ t : Fin grid0.N, _)
theorem index0_13 : ∀ t : Fin cfg0.N, win0_13.index t = ![0, 0] := (by decide +kernel : ∀ t : Fin grid0.N, _)
theorem index0_14 : ∀ t : Fin cfg0.N, win0_14.index t = ![0, t.val, 0] := (by decide +kernel : ∀ t : Fin grid0.N, _)
theorem index0_15 : ∀ t : Fin cfg0.N, win0_15.index t = ![0, t.val, 0] := (by decide +kernel : ∀ t : Fin grid0.N, _)

/-! ## The blocks at a grid point -/

theorem read_head (y : S4x16.Idx) : (blocks V c t).head y = V c main_arg2 y := by
  show V c main_arg2 ((win0_0.blk t).view.emb y) = _
  refine congrArg _ ?_
  blk_ext [index0_0 t]
theorem read_tail (y : S4x16.Idx) : (blocks V c t).tail y = V c main_arg3 y := by
  show V c main_arg3 ((win0_1.blk t).view.emb y) = _
  refine congrArg _ ?_
  blk_ext [index0_1 t]
theorem read_kind (y : S4x16.Idx) : (blocks V c t).kind y = V c main_arg4 y := by
  show V c main_arg4 ((win0_2.blk t).view.emb y) = _
  refine congrArg _ ?_
  blk_ext [index0_2 t]
theorem read_mask (y : S4x512.Idx) : (blocks V c t).mask y = V c main_arg5 y := by
  show V c main_arg5 ((win0_3.blk t).view.emb y) = _
  refine congrArg _ ?_
  blk_ext [index0_3 t]
theorem read_att (b : Fin 4) (hb : t.val = b.val) (h : Fin 12) (k l : Fin 512) :
    (blocks V c t).att (ix4 0 h k l) = V c main_arg1 (ix4 b h k l) := by
  show V c main_arg1 ((win0_4.blk t).view.emb (ix4 0 h k l)) = _
  refine congrArg _ ?_
  blk_ext [index0_4 t, hb]
theorem read_hid (b : Fin 4) (hb : t.val = b.val) (l : Fin 512) (k : Fin 768) :
    (blocks V c t).hid (ix3 0 l k) = V c main_arg0 (ix3 b l k) := by
  show V c main_arg0 ((win0_5.blk t).view.emb (ix3 0 l k)) = _
  refine congrArg _ ?_
  blk_ext [index0_5 t, hb]
theorem read_pick0 (y : S240x16.Idx) : (blocks V c t).pick0 y = V c main_cst y := by
  show V c main_cst ((win0_6.blk t).view.emb y) = _
  refine congrArg _ ?_
  blk_ext [index0_6 t]
theorem read_pick1 (y : S240x16.Idx) : (blocks V c t).pick1 y = V c main_cst_0 y := by
  show V c main_cst_0 ((win0_7.blk t).view.emb y) = _
  refine congrArg _ ?_
  blk_ext [index0_7 t]
theorem read_hw (y : S1576x768.Idx) : (blocks V c t).hw y = V c main_arg6 y := by
  show V c main_arg6 ((win0_8.blk t).view.emb y) = _
  refine congrArg _ ?_
  blk_ext [index0_8 t]
theorem read_hb (y : S768.Idx) : (blocks V c t).hb y = V c main_arg7 y := by
  show V c main_arg7 ((win0_9.blk t).view.emb y) = _
  refine congrArg _ ?_
  blk_ext [index0_9 t]
theorem read_tw (y : S1576x768.Idx) : (blocks V c t).tw y = V c main_arg8 y := by
  show V c main_arg8 ((win0_10.blk t).view.emb y) = _
  refine congrArg _ ?_
  blk_ext [index0_10 t]
theorem read_tb (y : S768.Idx) : (blocks V c t).tb y = V c main_arg9 y := by
  show V c main_arg9 ((win0_11.blk t).view.emb y) = _
  refine congrArg _ ?_
  blk_ext [index0_11 t]
theorem read_kinds (y : S7x20.Idx) : (blocks V c t).kinds y = V c main_arg11 y := by
  show V c main_arg11 ((win0_12.blk t).view.emb y) = _
  refine congrArg _ ?_
  blk_ext [index0_12 t]
theorem read_dists (y : S20x20.Idx) : (blocks V c t).dists y = V c main_arg10 y := by
  show V c main_arg10 ((win0_13.blk t).view.emb y) = _
  refine congrArg _ ?_
  blk_ext [index0_13 t]

end Reads

section Arrays

variable (V : (c : Dev nD) → (b : Ref sig .tc) → Buf (Elt Ideal) ((c : Thread nD τ).loc b)) (c : Dev nD)

/-- The grid point that computes a row of the result arrays. -/
def pointOf (n : Fin 960) : Fin cfg0.N := ⟨n.val / 240, by have := n.2; show _ < 4; omega⟩

/-- A row's place within its grid point's rows. -/
def pairOf (n : Fin 960) : Fin 240 := ⟨n.val % 240, by omega⟩

/-- The column of a slab's entry. -/
def colOf (g : Fin 12) (k : Fin 64) : Fin 768 := ⟨g.val * 64 + k.val, by omega⟩

/-- The first result array: every row from its own grid point. -/
def headArr : S12x960x64.Idx → EReal := fun y => headRows (grid0.coords (pointOf (y 1))) (blocks V c (pointOf (y 1))) (ix2 (pairOf (y 1)) (colOf (y 0) (y 2)))
/-- The second result array likewise. -/
def tailArr : S12x960x64.Idx → EReal := fun y => tailRows (grid0.coords (pointOf (y 1))) (blocks V c (pointOf (y 1))) (ix2 (pairOf (y 1)) (colOf (y 0) (y 2)))

/-- What the first call leaves in its first result array. -/
theorem arr14 : (dat0 V c).arrAt 14 cfg0.N = headArr V c := by
  refine (dat0 V c).arrAt_eq_of_covers 14 _ (by decide +kernel) fun t hf y => ?_
  blk_simp
  rw [dat0_after14]
  have e : pointOf ((win0_14.blk t).view.emb y 1) = t := by
    apply Fin.ext; show ((win0_14.blk t).view.emb y 1).val / 240 = t.val
    have h1 : (y 1).val < 240 := (y 1).2
    blk_simp [index0_14 t]
    omega
  unfold headArr
  rw [e]
  refine headOut_at _ _ ?_ ?_
  · show ((win0_14.blk t).view.emb y 1).val % 240 = (y 1).val
    have h1 : (y 1).val < 240 := (y 1).2
    blk_simp [index0_14 t]
    omega
  · show ((win0_14.blk t).view.emb y 0).val * 64 + ((win0_14.blk t).view.emb y 2).val = (y 0).val * 64 + (y 2).val
    blk_simp [index0_14 t]

/-- What the first call leaves in its second result array. -/
theorem arr15 : (dat0 V c).arrAt 15 cfg0.N = tailArr V c := by
  refine (dat0 V c).arrAt_eq_of_covers 15 _ (by decide +kernel) fun t hf y => ?_
  blk_simp
  rw [dat0_after15]
  have e : pointOf ((win0_15.blk t).view.emb y 1) = t := by
    apply Fin.ext; show ((win0_15.blk t).view.emb y 1).val / 240 = t.val
    have h1 : (y 1).val < 240 := (y 1).2
    blk_simp [index0_15 t]
    omega
  unfold tailArr
  rw [e]
  refine tailOut_at _ _ ?_ ?_
  · show ((win0_15.blk t).view.emb y 1).val % 240 = (y 1).val
    have h1 : (y 1).val < 240 := (y 1).2
    blk_simp [index0_15 t]
    omega
  · show ((win0_15.blk t).view.emb y 0).val * 64 + ((win0_15.blk t).view.emb y 2).val = (y 0).val * 64 + (y 2).val
    blk_simp [index0_15 t]

end Arrays

end Cert.KernelIdeal.Stages

end
-- ==== Proof.KernelIdealSum.lean ====
/- The second call read entry by entry: its result is the sum, over all 49152 products of a head and a tail entry, of the product
   times its weight, plus the bias. -/
module

public import proofs.«01_k».proof.Proof.KernelIdealOut

@[expose] public section

set_option maxRecDepth 16384

noncomputable section

namespace Cert.KernelIdeal.Stages

open Cert.KernelIdeal Cert.KernelIdeal.Gen Cert.Model
open Idealize.ShloMosaic Idealize.ShloMosaic.TcCoe Idealize.SL.Sem

/-- A slab repeated twice along its columns. -/
def twice (v : FVec Ideal S960x64 .f32) : FVec Ideal S960x128 .f32 :=
  concatenate S960x128 1 [⟨S960x64, v⟩, ⟨S960x64, v⟩] concatenates_S960x64_S960x64_S960x128_d1
/-- A slab repeated 64 times along its columns. -/
def tiled (v : FVec Ideal S960x64 .f32) : FVec Ideal S960x4096 .f32 :=
  concatenate S960x4096 1 (List.replicate 32 ⟨S960x128, twice v⟩) concatenates_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x128_S960x4096_d1
/-- The product against the weight, from a spread left slab and a tiled right one. -/
def product (a : FVec Ideal S960x64 .f32) (s : FVec Ideal S64x4096 .f32) (b : FVec Ideal S960x4096 .f32) (w : FVec Ideal S4096x97 .f32) :
    FVec Ideal S960x97 .f32 :=
  matmul dot_S960x4096_S4096x97_S960x97_1_0_0_1_n_n none
    (mulf (matmul dot_S960x64_S64x4096_S960x4096_1_0_0_1_n_n none a s (constant S960x4096 .f32 0x00000000#32)) b)
    w (constant S960x97 .f32 0x00000000#32)
/-- The body's product is this one. -/
theorem pay1_eq (v0 v2 : Vec Ideal S1x960x64 .f32) (v4 : Vec Ideal S64x4096 .f32) (v10 : Vec Ideal S4096x97 .f32) :
    k1_pay1 v0 v2 v4 v10 = product (shapeCast S960x64 v0 shapeCasts_S1x960x64_S960x64) (shapeCast S64x4096 v4 shapeCasts_S64x4096_S64x4096)
      (tiled (shapeCast S960x64 v2 shapeCasts_S1x960x64_S960x64)) v10 := rfl
/-- A column of the doubled slab. -/
theorem twice_at (v : FVec Ideal S960x64 .f32) (n : Fin 960) (k : Fin 128) : twice v (ix2 n k) = v (ix2 n ⟨k.val % 64, by omega⟩) := by
  unfold twice
  exact concatenate_replicate_apply (t := S960x128) (s₁ := S960x64) 1 2 v _ rfl (ix2 n k) (ix2 n ⟨k.val % 64, by omega⟩) rfl (fun b hb => by
    match b with
    | 0 => rfl
    | 1 => exact absurd rfl hb)
/-- A column of the repeated slab. -/
theorem tiled_at (v : FVec Ideal S960x64 .f32) (n : Fin 960) (k : Fin 4096) : tiled v (ix2 n k) = v (ix2 n ⟨k.val % 64, by omega⟩) := by
  unfold tiled
  refine (concatenate_replicate_apply (t := S960x4096) (s₁ := S960x128) 1 32 (twice v) _ rfl (ix2 n k) (ix2 n ⟨k.val % 128, by omega⟩) rfl (fun b hb => by
    match b with
    | 0 => rfl
    | 1 => exact absurd rfl hb)).trans ?_
  rw [twice_at]
  congr 2
  apply Fin.ext; show k.val % 128 % 64 = k.val % 64; omega
/-- The product, entry by entry. -/
theorem product_at (a : FVec Ideal S960x64 .f32) (s : FVec Ideal S64x4096 .f32) (b : FVec Ideal S960x4096 .f32) (w : FVec Ideal S4096x97 .f32)
    (n : Fin 960) (r : Fin 97) :
    (product a s b w (ix2 n r) : EReal) = ∑ k : Fin 4096, ((∑ l : Fin 64, a (ix2 n l) * s (ix2 l k)) * b (ix2 n k) : EReal) * w (ix2 k r) := by
  pointwise [product]

/-- A point's product: every left entry times every right entry, against the point's weights. -/
def part (x : Slabs Ideal) (n : Fin 960) (r : Fin 97) : EReal :=
  ∑ k : Fin 4096, (x.left (ix3 0 n ⟨k.val / 64, by omega⟩) * x.right (ix3 0 n ⟨k.val % 64, by omega⟩) : EReal) * x.weight (ix2 k r)

/-- The table that repeats each left entry 64 times in a row. -/
def Spreads (x : Slabs Ideal) : Prop :=
  ∀ (a : Fin 64) (k : Fin 4096), @Eq EReal (x.spread (ix2 a k)) (if a.val = k.val / 64 then 1 else 0)

/-- What the body multiplies out is the point's product. -/
theorem pay1_at (x : Slabs Ideal) (hs : Spreads x) (n : Fin 960) (r : Fin 97) :
    k1_pay1 (View.ld x.left r1_0) (View.ld x.right r1_0) (View.ld x.spread r1_1) (View.ld x.weight r1_2) (ix2 n r) = part x n r := by
  rw [pay1_eq]
  refine (product_at _ _ _ _ n r).trans ?_
  unfold part
  refine Finset.sum_congr rfl fun k _ => ?_
  rw [tiled_at]
  pointwise
  congr 2
  refine (Finset.sum_congr rfl fun l _ => mul_comm _ _).trans ?_
  exact sum_hot (⟨k.val / 64, by omega⟩ : Fin 64) (fun l => x.spread (ix2 l k)) (fun l => x.left (ix3 0 n l))
    fun l => (hs l k).trans (if_congr (Fin.ext_iff (b := (⟨k.val / 64, by omega⟩ : Fin 64))).symm rfl rfl)

/-- At the first point: the product plus the bias. -/
theorem firstOut_at (x : Slabs Ideal) (hs : Spreads x) (n : Fin 960) (r : Fin 97) :
    firstOut x (ix2 n r) = (part x n r + x.bias (ix1 r) : EReal) := by
  unfold firstOut
  canon_tiles u h
  have e : u = ix2 n r := by
    funext a
    match a with
    | 0 => exact Fin.ext (by omega)
    | 1 => exact Fin.ext (by omega)
  subst e
  unfold k1_pay2
  rw [← pay1_at x hs n r]
  generalize k1_pay1 (View.ld x.left r1_0) (View.ld x.right r1_0) (View.ld x.spread r1_1) (View.ld x.weight r1_2) = P
  pointwise

/-- At a later point: what was there plus the product. -/
theorem nextOut_at (x : Slabs Ideal) (hs : Spreads x) (p : Vec Ideal S960x97 .f32) (n : Fin 960) (r : Fin 97) :
    nextOut x p (ix2 n r) = (p (ix2 n r) + part x n r : EReal) := by
  unfold nextOut
  canon_tiles u h
  have e : u = ix2 n r := by
    funext a
    match a with
    | 0 => exact Fin.ext (by omega)
    | 1 => exact Fin.ext (by omega)
  subst e
  unfold k1_pay3
  rw [← pay1_at x hs n r]
  generalize k1_pay1 (View.ld x.left r1_0) (View.ld x.right r1_0) (View.ld x.spread r1_1) (View.ld x.weight r1_2) = P
  pointwise

section Reads

variable (V : (c : Dev nD) → (b : Ref sig .tc) → Buf (Elt Ideal) ((c : Thread nD τ).loc b)) (c : Dev nD) (t : Fin cfg1.N)

/-! ## The index maps of the second call's windows, and its blocks -/

theorem index1_0 : ∀ t : Fin cfg1.N, win1_0.index t = ![t.val, 0, 0] := (by decide +kernel : ∀ t : Fin grid1.N, _)
theorem index1_1 : ∀ t : Fin cfg1.N, win1_1.index t = ![t.val, 0, 0] := (by decide +kernel : ∀ t : Fin grid1.N, _)
theorem index1_2 : ∀ t : Fin cfg1.N, win1_2.index t = ![t.val, 0] := (by decide +kernel : ∀ t : Fin grid1.N, _)
theorem index1_3 : ∀ t : Fin cfg1.N, win1_3.index t = ![0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)

theorem read_left (g : Fin 12) (hg : t.val = g.val) (n : Fin 960) (k : Fin 64) :
    (slabs V c t).left (ix3 0 n k) = V c main_v0_0 (ix3 g n k) := by
  show V c main_v0_0 ((win1_0.blk t).view.emb (ix3 0 n k)) = _
  refine congrArg _ ?_
  blk_ext [index1_0 t, hg]
theorem read_right (g : Fin 12) (hg : t.val = g.val) (n : Fin 960) (k : Fin 64) :
    (slabs V c t).right (ix3 0 n k) = V c main_v0_1 (ix3 g n k) := by
  show V c main_v0_1 ((win1_1.blk t).view.emb (ix3 0 n k)) = _
  refine congrArg _ ?_
  blk_ext [index1_1 t, hg]
theorem read_weight (k : Fin 4096) (K : Fin 49152) (hK : K.val = t.val * 4096 + k.val) (r : Fin 97) :
    (slabs V c t).weight (ix2 k r) = V c main_arg12 (ix2 K r) := by
  show V c main_arg12 ((win1_2.blk t).view.emb (ix2 k r)) = _
  refine congrArg _ ?_
  blk_ext [index1_2 t, hK]
theorem read_bias (y : S97.Idx) : (slabs V c t).bias y = V c main_arg13 y := by
  show V c main_arg13 ((win1_3.blk t).view.emb y) = _
  refine congrArg _ ?_
  blk_ext [index1_3 t]
theorem read_spread (y : S64x4096.Idx) : (slabs V c t).spread y = V c main_v5 y := by
  show V c main_v5 ((win1_4.blk t).view.emb y) = _
  refine congrArg _ ?_
  blk_ext [index1_4 t]

/-- After point `n` the result block holds the products of the points up to it, plus the bias. -/
theorem total_at (hs : ∀ t, Spreads (slabs V c t)) (n : Fin 960) (r : Fin 97) :
    ∀ (k : ℕ) (h : k < cfg1.N), total V c k h (ix2 n r)
      = (∑ t : Fin (k + 1), part (slabs V c ⟨t.val, Nat.lt_of_le_of_lt (Nat.le_of_lt_succ t.2) h⟩) n r + V c main_arg13 (ix1 r) : EReal)
  | 0, h => by
    rw [show total V c 0 h = firstOut (slabs V c ⟨0, h⟩) from rfl, firstOut_at _ (hs _), read_bias]
    rw [Fin.sum_univ_one]
    rfl
  | k + 1, h => by
    rw [show total V c (k + 1) h = nextOut (slabs V c ⟨k + 1, h⟩) (total V c k (Nat.lt_of_succ_lt h)) from rfl, nextOut_at _ (hs _),
      total_at hs n r k (Nat.lt_of_succ_lt h), Fin.sum_univ_castSucc (n := k + 1), add_right_comm]
    rfl

/-- The whole sum: the outer product of the two arrays' rows against the weights, plus the bias. -/
def whole (A B : S12x960x64.Idx → EReal) (w : S49152x97.Idx → EReal) (z : S97.Idx → EReal) (n : Fin 960) (r : Fin 97) : EReal :=
  ∑ K : Fin 49152, (A (ix3 ⟨K.val / 4096, by omega⟩ n ⟨K.val % 4096 / 64, by omega⟩) * B (ix3 ⟨K.val / 4096, by omega⟩ n ⟨K.val % 64, by omega⟩))
    * w (ix2 K r) + z (ix1 r)

/-- What the second call leaves in its result. -/
theorem arr5 (hs : ∀ (a : Fin 64) (k : Fin 4096), @Eq EReal (V c main_v5 (ix2 a k)) (if a.val = k.val / 64 then 1 else 0)) :
    (dat1 V c).arrAt 5 cfg1.N = fun y => whole (V c main_v0_0) (V c main_v0_1) (V c main_arg12) (V c main_arg13) (y 0) (y 1) := by
  have hS : ∀ t, Spreads (slabs V c t) := fun t a k => (read_spread V c t _).trans (hs a k)
  refine Pipeline.Dat.arrAt_eq_of_after_last (dat1 V c) 5 (⟨11, by decide⟩ : Fin cfg1.N) (by decide +kernel) _ fun j => ?_
  refine (congrFun (dat1_after5 V c (⟨11, by decide⟩ : Fin cfg1.N)) _).trans ?_
  have ej : (win1_5.arr.view.emb j : S960x97.Idx) = ix2 (j 0) (j 1) := by blk_ext
  show _ = (fun y : S960x97.Idx => whole (V c main_v0_0) (V c main_v0_1) (V c main_arg12) (V c main_arg13) (y 0) (y 1)) (win1_5.arr.view.emb j : S960x97.Idx)
  rw [ej]
  refine (show _ = total V c 11 (by decide) (ix2 (j 0) (j 1)) from ?_).trans ((total_at V c hS (j 0) (j 1) 11 (by decide)).trans ?_)
  · refine congrArg (total V c 11 (by decide)) ?_
    funext a
    match a with
    | 0 => rfl
    | 1 => rfl
  · refine congrArg (· + (V c main_arg13 (ix1 (j 1)) : EReal)) ?_
    refine Fin.sum_mul_add_congr fun s k hl => ?_
    have h1 : (s.val * 4096 + k.val) / 4096 = s.val := by omega
    have h2 : (s.val * 4096 + k.val) % 4096 / 64 = k.val / 64 := by omega
    have h3 : (s.val * 4096 + k.val) % 64 = k.val % 64 := by omega
    refine congrArg₂ (fun a b : EReal => a * b) (congrArg₂ (fun a b : EReal => a * b) ((read_left V c _ s rfl _ _).trans ?_)
      ((read_right V c _ s rfl _ _).trans ?_)) (read_weight V c _ k ⟨s.val * 4096 + k.val, hl⟩ rfl _)
    · exact congrArg₂ (fun (g : Fin 12) (k : Fin 64) => V c main_v0_0 (ix3 g (j 0) k)) (Fin.ext h1.symm) (Fin.ext h2.symm)
    · exact congrArg₂ (fun (g : Fin 12) (k : Fin 64) => V c main_v0_1 (ix3 g (j 0) k)) (Fin.ext h1.symm) (Fin.ext h3.symm)

end Reads

end Cert.KernelIdeal.Stages

end
-- ==== Proof.KernelIdealTables.lean ====
/- The three tables the program builds: which entity each pair picks first and second, and how the left entries are repeated. -/
module

public import proofs.«01_k».proof.Proof.KernelIdealRun
public import proofs.«01_k».proof.Proof.Model
public import Idealize.ShloMosaic.Lib.Pointwise

@[expose] public section

set_option maxRecDepth 16384

noncomputable section

namespace Cert.KernelIdeal.Stages

open Cert.KernelIdeal Cert.KernelIdeal.Gen Cert.Model
open Idealize.ShloMosaic Idealize.ShloMosaic.TcCoe Idealize.SL.Sem

/-- The first picking table's words: the word of one where the pair's first entity is, the zero word elsewhere. -/
theorem lit0_at : ∀ (p : Fin 240) (e : Fin 16), lit0 (S240x16.rowMajor (ix2 p e)) = if e = src p then 0x3F800000#32 else 0#32 := by decide +kernel
/-- The second picking table's words, for the pair's second entity. -/
theorem lit1_at : ∀ (p : Fin 240) (e : Fin 16), lit1 (S240x16.rowMajor (ix2 p e)) = if e = dst p then 0x3F800000#32 else 0#32 := by decide +kernel

theorem one_eq : Ideal.ofBits .f32 0x3F800000#32 = (1 : EReal) := by
  simp [Ideal.ofBits, Ideal.ieee]
  rw [← EReal.coe_mul, ← EReal.coe_one]; norm_num
theorem zero_eq : Ideal.ofBits .f32 0#32 = (0 : EReal) := by simp [Ideal.ofBits, Ideal.ieee]

variable (m : (ℓ : Loc nD τ sig) → Buf (Elt Ideal) ℓ) (ρ : Dev nD → PrngReg) (c : Dev nD)

/-- The first picking table when the first call is entered. -/
theorem V1_pick0 (p : Fin 240) (e : Fin 16) : @Eq EReal (V1 m ρ c main_cst (ix2 p e)) (if e = src p then 1 else 0) := by
  show Ideal.ofBits .f32 (lit0 (S240x16.rowMajor (ix2 p e))) = _
  rw [lit0_at]
  split_ifs
  · exact one_eq
  · exact zero_eq
/-- The second picking table when the first call is entered. -/
theorem V1_pick1 (p : Fin 240) (e : Fin 16) : @Eq EReal (V1 m ρ c main_cst_0 (ix2 p e)) (if e = dst p then 1 else 0) := by
  show Ideal.ofBits .f32 (lit1 (S240x16.rowMajor (ix2 p e))) = _
  rw [lit1_at]
  split_ifs
  · exact one_eq
  · exact zero_eq

/-- The repeating table when the second call is entered, as it is computed. -/
theorem Vk_spread_eq : Vk m ρ c main_v5 = (shapeCast S64x4096 (uitofp (F := Ideal) .f32 (cmpi .eq (iotaInDim S64x64x64 32 0) (iotaInDim S64x64x64 32 1))) shapeCasts_S64x64x64_S64x4096 : FVec Ideal S64x4096 .f32) := rfl
/-- The repeating table: column `k` picks entry `k / 64`. -/
theorem Vk_spread (a : Fin 64) (k : Fin 4096) : @Eq EReal (Vk m ρ c main_v5 (ix2 a k)) (if a.val = k.val / 64 then 1 else 0) := by
  rw [Vk_spread_eq]
  pointwise
  show (((IntOp.cmpi CmpIPredicate.eq (BitVec.ofNat 32 a.val) (BitVec.ofNat 32 (k.val / 64))).toNat : ℝ) : EReal) = _
  have hw : BitVec.ofNat 32 a.val = BitVec.ofNat 32 (k.val / 64) ↔ a.val = k.val / 64 := word_inj (by omega) (by omega)
  by_cases h : a.val = k.val / 64
  · rw [if_pos h]; simp [IntOp.cmpi, hw.mpr h]
  · rw [if_neg h]; simp [IntOp.cmpi, beq_eq_false_iff_ne.mpr (fun e => h (hw.mp e))]

end Cert.KernelIdeal.Stages

end
-- ==== Proof.Answer.lean ====
/- The whole computation over plain indices: four examples, 240 pairs each, one row of 97 scores per pair. -/
module

public import proofs.«01_k».proof.Proof.Model

@[expose] public section

noncomputable section

namespace Cert.Model

open Idealize.ShloMosaic Idealize.ShloMosaic.TcCoe Idealize.SL.Sem

/-- The fourteen argument arrays, in the order of the arguments. -/
structure Inputs where
  hid : (⟨3, ![4, 512, 768]⟩ : Shape).Idx → EReal
  att : (⟨4, ![4, 12, 512, 512]⟩ : Shape).Idx → EReal
  head : (⟨2, ![4, 16]⟩ : Shape).Idx → BitVec 32
  tail : (⟨2, ![4, 16]⟩ : Shape).Idx → BitVec 32
  kind : (⟨2, ![4, 16]⟩ : Shape).Idx → BitVec 32
  mask : (⟨2, ![4, 512]⟩ : Shape).Idx → EReal
  hw : (⟨2, ![1576, 768]⟩ : Shape).Idx → EReal
  hb : (⟨1, ![768]⟩ : Shape).Idx → EReal
  tw : (⟨2, ![1576, 768]⟩ : Shape).Idx → EReal
  tb : (⟨1, ![768]⟩ : Shape).Idx → EReal
  dists : (⟨2, ![20, 20]⟩ : Shape).Idx → EReal
  kinds : (⟨2, ![7, 20]⟩ : Shape).Idx → EReal
  cw : (⟨2, ![49152, 97]⟩ : Shape).Idx → EReal
  cb : (⟨1, ![97]⟩ : Shape).Idx → EReal

namespace Inputs

variable (X : Inputs)

/-- The integer arguments are in range: positions below 512, kinds below 7. -/
structure Ok : Prop where
  head : ∀ y, (X.head y).toNat < 512
  tail : ∀ y, (X.tail y).toNat < 512
  kind : ∀ y, (X.kind y).toNat < 7

/-- One of the four examples. -/
def doc (b : Fin 4) : Doc where
  head e := ⟨(X.head (ix2 b e)).toNat % 512, Nat.mod_lt _ (by norm_num)⟩
  tail e := ⟨(X.tail (ix2 b e)).toNat % 512, Nat.mod_lt _ (by norm_num)⟩
  kind e := ⟨(X.kind (ix2 b e)).toNat % 7, Nat.mod_lt _ (by norm_num)⟩
  mask l := X.mask (ix2 b l)
  att h l l' := X.att (ix4 b h l l')
  hid l k := X.hid (ix3 b l k)
  kinds k t := X.kinds (ix2 k t)
  dists k t := X.dists (ix2 k t)

variable {X} in
/-- A head position's word. -/
theorem Ok.head_eq (h : X.Ok) (b : Fin 4) (e : Fin 16) : X.head (ix2 b e) = BitVec.ofNat 32 ((X.doc b).head e).val := by
  apply BitVec.eq_of_toNat_eq
  have := h.head (ix2 b e)
  show _ = (BitVec.ofNat 32 ((X.head (ix2 b e)).toNat % 512)).toNat
  rw [BitVec.toNat_ofNat]; omega

variable {X} in
/-- A tail position's word. -/
theorem Ok.tail_eq (h : X.Ok) (b : Fin 4) (e : Fin 16) : X.tail (ix2 b e) = BitVec.ofNat 32 ((X.doc b).tail e).val := by
  apply BitVec.eq_of_toNat_eq
  have := h.tail (ix2 b e)
  show _ = (BitVec.ofNat 32 ((X.tail (ix2 b e)).toNat % 512)).toNat
  rw [BitVec.toNat_ofNat]; omega

variable {X} in
/-- A kind's word. -/
theorem Ok.kind_eq (h : X.Ok) (b : Fin 4) (e : Fin 16) : X.kind (ix2 b e) = BitVec.ofNat 32 ((X.doc b).kind e).val := by
  apply BitVec.eq_of_toNat_eq
  have := h.kind (ix2 b e)
  show _ = (BitVec.ofNat 32 ((X.kind (ix2 b e)).toNat % 7)).toNat
  rw [BitVec.toNat_ofNat]; omega

/-- A pair's head representation: row `n` is pair `n % 240` of example `n / 240`. -/
def headRow (n : Fin 960) (j : Fin 768) : EReal :=
  (X.doc ⟨n.val / 240, by omega⟩).row (src ⟨n.val % 240, by omega⟩) ⟨n.val % 240, by omega⟩ (fun k j => X.hw (ix2 k j)) (fun j => X.hb (ix1 j)) j

/-- A pair's tail representation. -/
def tailRow (n : Fin 960) (j : Fin 768) : EReal :=
  (X.doc ⟨n.val / 240, by omega⟩).row (dst ⟨n.val % 240, by omega⟩) ⟨n.val % 240, by omega⟩ (fun k j => X.tw (ix2 k j)) (fun j => X.tb (ix1 j)) j

/-- A pair's score: the outer products of its two representations, twelve slabs of 64 by 64, against the weights, plus the bias. -/
def score (n : Fin 960) (r : Fin 97) : EReal :=
  ∑ K : Fin 49152, (X.headRow n ⟨K.val / 4096 * 64 + K.val % 4096 / 64, by omega⟩ * X.tailRow n ⟨K.val / 4096 * 64 + K.val % 64, by omega⟩)
    * X.cw (ix2 K r) + X.cb (ix1 r)

end Inputs

end Cert.Model

end
-- ==== Proof.KernelIdealValue.lean ====
/- The kernel's result is the plain computation of its arguments. -/
module

public import proofs.«01_k».proof.Proof.KernelIdealSum
public import proofs.«01_k».proof.Proof.KernelIdealTables
public import proofs.«01_k».proof.Proof.Answer

@[expose] public section

set_option maxRecDepth 16384

noncomputable section

namespace Cert.KernelIdeal.Stages

open Cert.KernelIdeal Cert.KernelIdeal.Gen Cert.Model
open Idealize.ShloMosaic Idealize.ShloMosaic.TcCoe Idealize.SL.Sem

variable (m : (ℓ : Loc nD τ sig) → Buf (Elt Ideal) ℓ) (ρ : Dev nD → PrngReg) (c : Dev nD)

/-- The argument arrays of one device. -/
def inputs : Inputs where
  hid := m ((c : Thread nD τ).loc main_arg0)
  att := m ((c : Thread nD τ).loc main_arg1)
  head := m ((c : Thread nD τ).loc main_arg2)
  tail := m ((c : Thread nD τ).loc main_arg3)
  kind := m ((c : Thread nD τ).loc main_arg4)
  mask := m ((c : Thread nD τ).loc main_arg5)
  hw := m ((c : Thread nD τ).loc main_arg6)
  hb := m ((c : Thread nD τ).loc main_arg7)
  tw := m ((c : Thread nD τ).loc main_arg8)
  tb := m ((c : Thread nD τ).loc main_arg9)
  dists := m ((c : Thread nD τ).loc main_arg10)
  kinds := m ((c : Thread nD τ).loc main_arg11)
  cw := m ((c : Thread nD τ).loc main_arg12)
  cb := m ((c : Thread nD τ).loc main_arg13)

/-- The first grid's coordinate is the point. -/
theorem coord0 : ∀ t : Fin cfg0.N, (grid0.coords t 0).val = t.val := (by decide +kernel : ∀ t : Fin grid0.N, _)

/-- The first call's blocks at a point hold that example. -/
theorem holds (ok : (inputs m c).Ok) (t : Fin cfg0.N) (b : Fin 4) (hb : t.val = b.val) :
    Holds (grid0.coords t) (blocks (V1 m ρ) c t) b ((inputs m c).doc b) where
  point := (coord0 t).trans hb
  head e := ((read_head (V1 m ρ) c t _).trans (congrFun (W1_args m ρ c main_arg2 (by decide)) _)).trans (ok.head_eq b e)
  tail e := ((read_tail (V1 m ρ) c t _).trans (congrFun (W1_args m ρ c main_arg3 (by decide)) _)).trans (ok.tail_eq b e)
  kind e := ((read_kind (V1 m ρ) c t _).trans (congrFun (W1_args m ρ c main_arg4 (by decide)) _)).trans (ok.kind_eq b e)
  mask l := (read_mask (V1 m ρ) c t _).trans (congrFun (W1_args m ρ c main_arg5 (by decide)) _)
  att h l l' := (read_att (V1 m ρ) c t b hb h l l').trans (congrFun (W1_args m ρ c main_arg1 (by decide)) _)
  hid l k := (read_hid (V1 m ρ) c t b hb l k).trans (congrFun (W1_args m ρ c main_arg0 (by decide)) _)
  pick0 p e := (read_pick0 (V1 m ρ) c t _).trans (V1_pick0 m ρ c p e)
  pick1 p e := (read_pick1 (V1 m ρ) c t _).trans (V1_pick1 m ρ c p e)
  kinds k u := (read_kinds (V1 m ρ) c t _).trans (congrFun (W1_args m ρ c main_arg11 (by decide)) _)
  dists k u := (read_dists (V1 m ρ) c t _).trans (congrFun (W1_args m ρ c main_arg10 (by decide)) _)

/-- The first result array of the first call, entry by entry. -/
theorem headArr_at (ok : (inputs m c).Ok) (g : Fin 12) (n : Fin 960) (k : Fin 64) :
    headArr (V1 m ρ) c (ix3 g n k) = (inputs m c).headRow n (colOf g k) := by
  unfold headArr Inputs.headRow
  refine (headRows_at (holds m ρ c ok (pointOf n) ⟨n.val / 240, by omega⟩ rfl) (pairOf n) (colOf g k)).trans ?_
  have e1 : (fun (k : Fin 1576) (j : Fin 768) => ((blocks (V1 m ρ) c (pointOf n)).hw (ix2 k j) : EReal)) = fun k j => (inputs m c).hw (ix2 k j) :=
    funext fun k => funext fun j => (read_hw (V1 m ρ) c (pointOf n) _).trans (congrFun (W1_args m ρ c main_arg6 (by decide)) _)
  have e2 : (fun j : Fin 768 => ((blocks (V1 m ρ) c (pointOf n)).hb (ix1 j) : EReal)) = fun j => (inputs m c).hb (ix1 j) :=
    funext fun j => (read_hb (V1 m ρ) c (pointOf n) _).trans (congrFun (W1_args m ρ c main_arg7 (by decide)) _)
  rw [e1, e2]
  rfl

/-- The second result array of the first call, entry by entry. -/
theorem tailArr_at (ok : (inputs m c).Ok) (g : Fin 12) (n : Fin 960) (k : Fin 64) :
    tailArr (V1 m ρ) c (ix3 g n k) = (inputs m c).tailRow n (colOf g k) := by
  unfold tailArr Inputs.tailRow
  refine (tailRows_at (holds m ρ c ok (pointOf n) ⟨n.val / 240, by omega⟩ rfl) (pairOf n) (colOf g k)).trans ?_
  have e1 : (fun (k : Fin 1576) (j : Fin 768) => ((blocks (V1 m ρ) c (pointOf n)).tw (ix2 k j) : EReal)) = fun k j => (inputs m c).tw (ix2 k j) :=
    funext fun k => funext fun j => (read_tw (V1 m ρ) c (pointOf n) _).trans (congrFun (W1_args m ρ c main_arg8 (by decide)) _)
  have e2 : (fun j : Fin 768 => ((blocks (V1 m ρ) c (pointOf n)).tb (ix1 j) : EReal)) = fun j => (inputs m c).tb (ix1 j) :=
    funext fun j => (read_tb (V1 m ρ) c (pointOf n) _).trans (congrFun (W1_args m ρ c main_arg9 (by decide)) _)
  rw [e1, e2]
  rfl

/-- The first result array when the second call is entered. -/
theorem Vk_left : Vk m ρ c main_v0_0 = headArr (V1 m ρ) c :=
  ((Wk_of m ρ c main_v0_0 (by decide)).trans (W2_arr m ρ c 14)).trans (arr14 (V1 m ρ) c)
/-- The second result array when the second call is entered. -/
theorem Vk_right : Vk m ρ c main_v0_1 = tailArr (V1 m ρ) c :=
  ((Wk_of m ρ c main_v0_1 (by decide)).trans (W2_arr m ρ c 15)).trans (arr15 (V1 m ρ) c)

/-- The kernel's result is the score of every pair. -/
theorem result_eq (ok : (inputs m c).Ok) : result m ρ c = fun y => (inputs m c).score (y 0) (y 1) := by
  unfold result
  refine (arr5 (Vk m ρ) c (Vk_spread m ρ c)).trans ?_
  funext y
  unfold whole Inputs.score
  refine congrArg₂ (fun a b : EReal => a + b) (Finset.sum_congr rfl fun K _ => ?_) (congrFun (Wk_args m ρ c main_arg13 (by decide)) _)
  refine congrArg₂ (fun a b : EReal => a * b) (congrArg₂ (fun a b : EReal => a * b) ?_ ?_) (congrFun (Wk_args m ρ c main_arg12 (by decide)) _)
  · exact (congrFun (Vk_left m ρ c) _).trans (headArr_at m ρ c ok _ _ _)
  · exact (congrFun (Vk_right m ρ c) _).trans (tailArr_at m ρ c ok _ _ _)

end Cert.KernelIdeal.Stages

end
-- ==== Proof.Gathers.lean ====
/- The reference's table reads at indices that are in range: each `gather` reads the entry its index word names. None of the
   statements mentions a program. -/
module

public import proofs.«01_k».proof.Proof.Tools
public import Idealize.ShloMosaic.Lib.ValueIdx

@[expose] public section

noncomputable section

namespace Cert.Model

open Idealize.ShloMosaic Idealize.ShloMosaic.TcCoe Idealize.SL.Sem

variable {α : Type}

/-- A gather reads the entry whose coordinates are the sums of its three parts. -/
theorem gather_read {s si t : Shape} (d : GatherDims s si t) (x : s.Idx → α) (idx : IVec si 32) (j : t.Idx) (y : s.Idx)
    (h : ∀ a, d.start j idx a + d.batchCoord j a + d.offCoord j a = (y a).val) : Host.gather d x idx j = x y :=
  congrArg x (funext fun a => Fin.ext (h a))

/-- The start on an indexed axis is the number its word names, when the slice at that number fits. -/
theorem start_read {s si t : Shape} (d : GatherDims s si t) (idx : IVec si 32) (j : t.Idx) (a : Fin s.rank) (ha : a ∈ d.startIndexMap)
    (y : si.Idx) (hy : ∀ b, d.siIdx j ⟨d.startIndexMap.idxOf a, List.idxOf_lt_length_iff.2 ha⟩ b = y b) (n : ℕ)
    (e : idx y = BitVec.ofNat 32 n) (hn : n ≤ s.size a - d.sliceSizes a) (hb : n < 2 ^ 31) : d.start j idx a = n := by
  unfold GatherDims.start
  rw [dif_pos ha, show d.siIdx j _ = y from funext hy, e, word_toInt hb]
  exact min_eq_left hn

/-- Rows of a table per example, `[4, N, C]` at `[4, R, 1]`: row `n` of the same example. -/
theorem gather_rows {N R C : ℕ}
    (wf : GatherDims.WF ⟨3, ![4, N, C]⟩ ⟨3, ![4, R, 1]⟩ ⟨3, ![4, R, C]⟩ [2] [1] [0] [1] [0] 2 ![1, 1, C])
    (x : (⟨3, ![4, N, C]⟩ : Shape).Idx → α) (idx : IVec ⟨3, ![4, R, 1]⟩ 32) (b : Fin 4) (e : Fin R) (k : Fin C) (n : Fin N)
    (h : idx (ix3 b e 0) = BitVec.ofNat 32 n.val) (hN : N ≤ 2 ^ 31) :
    Host.gather (⟨[2], [1], [0], [0], [1], 2, ![1, 1, C], wf⟩ : GatherDims ⟨3, ![4, N, C]⟩ ⟨3, ![4, R, 1]⟩ ⟨3, ![4, R, C]⟩) x idx (ix3 b e k)
      = x (ix3 b n k) := by
  refine gather_read _ x idx _ _ fun a => ?_
  have hn := n.2
  match a with
  | ⟨0, _⟩ =>
    show 0 + _ + 0 = _
    rw [Nat.zero_add, Nat.add_zero]; rfl
  | ⟨1, _⟩ =>
    rw [start_read _ idx _ _ (List.mem_singleton.mpr rfl) (ix3 b e 0) (fun c => by match c with | ⟨0, _⟩ => rfl | ⟨1, _⟩ => rfl | ⟨2, _⟩ => rfl)
      n.val h (show n.val ≤ N - 1 by omega) (by omega)]
    show n.val + 0 + 0 = n.val
    rfl
  | ⟨2, _⟩ =>
    show 0 + 0 + _ = _
    rw [Nat.zero_add]; rfl

/-- Rows of one table, `[N, C]` at `[4, R, 1]`: row `n`. -/
theorem gather_table {N R C : ℕ}
    (wf : GatherDims.WF ⟨2, ![N, C]⟩ ⟨3, ![4, R, 1]⟩ ⟨3, ![4, R, C]⟩ [2] [0] [] [0] [] 2 ![1, C])
    (x : (⟨2, ![N, C]⟩ : Shape).Idx → α) (idx : IVec ⟨3, ![4, R, 1]⟩ 32) (b : Fin 4) (e : Fin R) (k : Fin C) (n : Fin N)
    (h : idx (ix3 b e 0) = BitVec.ofNat 32 n.val) (hN : N ≤ 2 ^ 31) :
    Host.gather (⟨[2], [0], [], [], [0], 2, ![1, C], wf⟩ : GatherDims ⟨2, ![N, C]⟩ ⟨3, ![4, R, 1]⟩ ⟨3, ![4, R, C]⟩) x idx (ix3 b e k)
      = x (ix2 n k) := by
  refine gather_read _ x idx _ _ fun a => ?_
  have hn := n.2
  match a with
  | ⟨0, _⟩ =>
    rw [start_read _ idx _ _ (List.mem_singleton.mpr rfl) (ix3 b e 0) (fun c => by match c with | ⟨0, _⟩ => rfl | ⟨1, _⟩ => rfl | ⟨2, _⟩ => rfl)
      n.val h (show n.val ≤ N - 1 by omega) (by omega)]
    show n.val + 0 + 0 = n.val
    rfl
  | ⟨1, _⟩ =>
    show 0 + 0 + _ = _
    rw [Nat.zero_add]; rfl

/-- Entries of one list, `[N]` at `[4, R, 1]`: entry `n`. -/
theorem gather_list {N R : ℕ}
    (wf : GatherDims.WF ⟨1, ![N]⟩ ⟨3, ![4, R, 1]⟩ ⟨2, ![4, R]⟩ [] [0] [] [0] [] 2 ![1])
    (x : (⟨1, ![N]⟩ : Shape).Idx → α) (idx : IVec ⟨3, ![4, R, 1]⟩ 32) (b : Fin 4) (e : Fin R) (n : Fin N)
    (h : idx (ix3 b e 0) = BitVec.ofNat 32 n.val) (hN : N ≤ 2 ^ 31) :
    Host.gather (⟨[], [0], [], [], [0], 2, ![1], wf⟩ : GatherDims ⟨1, ![N]⟩ ⟨3, ![4, R, 1]⟩ ⟨2, ![4, R]⟩) x idx (ix2 b e) = x (ix1 n) := by
  refine gather_read _ x idx _ _ fun a => ?_
  have hn := n.2
  match a with
  | ⟨0, _⟩ =>
    rw [start_read _ idx _ _ (List.mem_singleton.mpr rfl) (ix3 b e 0) (fun c => by match c with | ⟨0, _⟩ => rfl | ⟨1, _⟩ => rfl | ⟨2, _⟩ => rfl)
      n.val h (show n.val ≤ N - 1 by omega) (by omega)]
    show n.val + 0 + 0 = n.val
    rfl

/-- The same rows for every example, `[4, N, C]` at `[R, 1]`: row `n` of each example. -/
theorem gather_every {N R C : ℕ}
    (wf : GatherDims.WF ⟨3, ![4, N, C]⟩ ⟨2, ![R, 1]⟩ ⟨3, ![4, R, C]⟩ [0, 2] [1] [] [1] [] 1 ![4, 1, C])
    (x : (⟨3, ![4, N, C]⟩ : Shape).Idx → α) (idx : IVec ⟨2, ![R, 1]⟩ 32) (b : Fin 4) (p : Fin R) (k : Fin C) (n : Fin N)
    (h : idx (ix2 p 0) = BitVec.ofNat 32 n.val) (hN : N ≤ 2 ^ 31) :
    Host.gather (⟨[0, 2], [1], [], [], [1], 1, ![4, 1, C], wf⟩ : GatherDims ⟨3, ![4, N, C]⟩ ⟨2, ![R, 1]⟩ ⟨3, ![4, R, C]⟩) x idx (ix3 b p k)
      = x (ix3 b n k) := by
  refine gather_read _ x idx _ _ fun a => ?_
  have hn := n.2
  match a with
  | ⟨0, _⟩ =>
    show 0 + 0 + _ = _
    rw [Nat.zero_add]; rfl
  | ⟨1, _⟩ =>
    rw [start_read _ idx _ _ (List.mem_singleton.mpr rfl) (ix2 p 0) (fun c => by match c with | ⟨0, _⟩ => rfl | ⟨1, _⟩ => rfl)
      n.val h (show n.val ≤ N - 1 by omega) (by omega)]
    show n.val + 0 + 0 = n.val
    rfl
  | ⟨2, _⟩ =>
    show 0 + 0 + _ = _
    rw [Nat.zero_add]; rfl

/-- The same entries for every example, `[4, N]` at `[R, 1]`: entry `n` of each example. -/
theorem gather_each {N R : ℕ}
    (wf : GatherDims.WF ⟨2, ![4, N]⟩ ⟨2, ![R, 1]⟩ ⟨2, ![4, R]⟩ [0] [1] [] [1] [] 1 ![4, 1])
    (x : (⟨2, ![4, N]⟩ : Shape).Idx → α) (idx : IVec ⟨2, ![R, 1]⟩ 32) (b : Fin 4) (p : Fin R) (n : Fin N)
    (h : idx (ix2 p 0) = BitVec.ofNat 32 n.val) (hN : N ≤ 2 ^ 31) :
    Host.gather (⟨[0], [1], [], [], [1], 1, ![4, 1], wf⟩ : GatherDims ⟨2, ![4, N]⟩ ⟨2, ![R, 1]⟩ ⟨2, ![4, R]⟩) x idx (ix2 b p) = x (ix2 b n) := by
  refine gather_read _ x idx _ _ fun a => ?_
  have hn := n.2
  match a with
  | ⟨0, _⟩ =>
    show 0 + 0 + _ = _
    rw [Nat.zero_add]; rfl
  | ⟨1, _⟩ =>
    rw [start_read _ idx _ _ (List.mem_singleton.mpr rfl) (ix2 p 0) (fun c => by match c with | ⟨0, _⟩ => rfl | ⟨1, _⟩ => rfl)
      n.val h (show n.val ≤ N - 1 by omega) (by omega)]
    show n.val + 0 + 0 = n.val
    rfl

/-- An index that is a small number is not counted from the end. -/
theorem wrap_word {n : ℕ} (hn : n < 2 ^ 31) (w N : BitVec 32) (e : w = BitVec.ofNat 32 n) :
    Scalar.select (IntOp.cmpi .slt w 0#32) (IntOp.addi w N) w = w := by
  subst e
  have h : (BitVec.ofNat 32 n).slt 0#32 = false := by
    simp only [BitVec.slt, BitVec.toInt_zero, decide_eq_false_iff_not, Int.not_lt, word_toInt hn]; omega
  show (if BitVec.ofBool ((BitVec.ofNat 32 n).slt 0#32) = 1 then _ else _) = _
  rw [h]; rfl

/-- The difference of two small numbers in absolute value. -/
theorem word_dist {a b : ℕ} (ha : a < 512) (hb : b < 512) :
    IntOp.absi (IntOp.subi (BitVec.ofNat 32 a) (BitVec.ofNat 32 b)) = BitVec.ofNat 32 ((a : ℤ) - (b : ℤ)).natAbs := by
  have small : ∀ n : ℕ, n < 512 → (BitVec.ofNat 32 n).msb = false := fun n hn => by
    rw [BitVec.msb_eq_false_iff_two_mul_lt, BitVec.toNat_ofNat]; omega
  show (if (BitVec.ofNat 32 a - BitVec.ofNat 32 b).msb then -(BitVec.ofNat 32 a - BitVec.ofNat 32 b) else _) = _
  by_cases h : b ≤ a
  · have e : BitVec.ofNat 32 a - BitVec.ofNat 32 b = BitVec.ofNat 32 (a - b) := by
      apply BitVec.eq_of_toNat_eq
      simp only [BitVec.toNat_sub, BitVec.toNat_ofNat]; omega
    rw [e, small _ (by omega), show ((a : ℤ) - (b : ℤ)).natAbs = a - b by omega]; exact e
  · have e : BitVec.ofNat 32 a - BitVec.ofNat 32 b = -BitVec.ofNat 32 (b - a) := by
      apply BitVec.eq_of_toNat_eq
      simp only [BitVec.toNat_sub, BitVec.toNat_neg, BitVec.toNat_ofNat]; omega
    have t : (-BitVec.ofNat 32 (b - a)).msb = true := by
      rw [BitVec.msb_eq_true_iff_two_mul_ge, BitVec.toNat_neg, BitVec.toNat_ofNat]; omega
    rw [e, t, if_pos rfl, BitVec.neg_neg, show ((a : ℤ) - (b : ℤ)).natAbs = b - a by omega]

end Cert.Model

end
-- ==== Proof.ReferenceIdealRows.lean ====
/- What the reference computes for one pair before the last product: its indices, features, context, kinds and distances. -/
module

public import proofs.«01_k».proof.Proof.Gen.ReferenceIdeal.Read
public import proofs.«01_k».proof.Proof.Answer
public import proofs.«01_k».proof.Proof.Gathers

@[expose] public section

set_option maxRecDepth 16384

noncomputable section

namespace Cert.ReferenceIdeal.Stages

open Cert.ReferenceIdeal Cert.ReferenceIdeal.Gen Cert.ReferenceIdeal.Read Cert.Model
open Idealize.ShloMosaic Idealize.ShloMosaic.TcCoe Idealize.SL.Sem

/-! ## Indices -/

/-- The first entity's word of a pair. -/
theorem v8_at (p : Fin 240) : @Eq (BitVec 32) (val_main_v8 (F := Ideal) (ix1 p)) (BitVec.ofNat 32 (src p).val) := by
  rw [val_main_v8_apply]; rfl

/-- The second entity's word of a pair. -/
theorem v7_at (p : Fin 240) : @Eq (BitVec 32) (val_main_v7 (F := Ideal) (ix1 p)) (BitVec.ofNat 32 (dst p).val) := by
  revert p
  have h : ∀ p : Fin 240, Scalar.select (IntOp.cmpi .sge (BitVec.ofNat 32 (p.val % 15)) (BitVec.ofNat 32 (p.val / 15)))
      (IntOp.addi (BitVec.ofNat 32 (p.val % 15)) 1#32) (BitVec.ofNat 32 (p.val % 15)) = BitVec.ofNat 32 (dst p).val := by decide +kernel
  intro p
  rw [val_main_v7_apply]
  exact h p

/-- The first entity's start index. -/
theorem v84_at (p : Fin 240) : @Eq (BitVec 32) (val_main_v84 (F := Ideal) (ix2 p 0)) (BitVec.ofNat 32 (src p).val) := by
  rw [val_main_v84_apply, show idx_main_v84 (ix2 p 0) = ix1 p from funext fun a => by match a with | ⟨0, _⟩ => rfl]
  exact (wrap_word (n := (src p).val) (by have := (src p).2; omega) _ 16#32 (v8_at p)).trans (v8_at p)

/-- The second entity's start index. -/
theorem v91_at (p : Fin 240) : @Eq (BitVec 32) (val_main_v91 (F := Ideal) (ix2 p 0)) (BitVec.ofNat 32 (dst p).val) := by
  rw [val_main_v91_apply, show idx_main_v91 (ix2 p 0) = ix1 p from funext fun a => by match a with | ⟨0, _⟩ => rfl]
  exact (wrap_word (n := (dst p).val) (by have := (dst p).2; omega) _ 16#32 (v7_at p)).trans (v7_at p)

variable {X : Inputs} (ok : X.Ok) (b : Fin 4)
include ok

/-- A head position's start index. -/
theorem v43_at (e : Fin 16) : @Eq (BitVec 32) (val_main_v43 (F := Ideal) X.head (ix3 b e 0)) (BitVec.ofNat 32 ((X.doc b).head e).val) := by
  rw [val_main_v43_apply, show idx_main_v43 (ix3 b e 0) = ix2 b e from funext fun a => by match a with | ⟨0, _⟩ => rfl | ⟨1, _⟩ => rfl]
  exact (wrap_word (n := ((X.doc b).head e).val) (by have := ((X.doc b).head e).2; omega) _ 512#32 (ok.head_eq b e)).trans (ok.head_eq b e)

/-- A tail position's start index. -/
theorem v50_at (e : Fin 16) : @Eq (BitVec 32) (val_main_v50 (F := Ideal) X.tail (ix3 b e 0)) (BitVec.ofNat 32 ((X.doc b).tail e).val) := by
  rw [val_main_v50_apply, show idx_main_v50 (ix3 b e 0) = ix2 b e from funext fun a => by match a with | ⟨0, _⟩ => rfl | ⟨1, _⟩ => rfl]
  exact (wrap_word (n := ((X.doc b).tail e).val) (by have := ((X.doc b).tail e).2; omega) _ 512#32 (ok.tail_eq b e)).trans (ok.tail_eq b e)

/-- A kind's start index. -/
theorem v77_at (e : Fin 16) : @Eq (BitVec 32) (val_main_v77 (F := Ideal) X.kind (ix3 b e 0)) (BitVec.ofNat 32 ((X.doc b).kind e).val) := by
  rw [val_main_v77_apply, show idx_main_v77 (ix3 b e 0) = ix2 b e from funext fun a => by match a with | ⟨0, _⟩ => rfl | ⟨1, _⟩ => rfl]
  exact (wrap_word (n := ((X.doc b).kind e).val) (by have := ((X.doc b).kind e).2; omega) _ 7#32 (ok.kind_eq b e)).trans (ok.kind_eq b e)

/-! ## Features -/

/-- An entity's feature row. -/
theorem v54_at (e : Fin 16) (k : Fin 768) :
    @Eq EReal (val_main_v54 (F := Ideal) X.hid X.head X.tail (ix3 b e k)) ((X.doc b).feat e k) := by
  have h : @Eq EReal (val_main_v44 (F := Ideal) X.hid X.head (ix3 b e k)) ((X.doc b).hid ((X.doc b).head e) k) :=
    gather_rows _ X.hid _ b e k _ (v43_at ok b e) (by norm_num)
  have t : @Eq EReal (val_main_v51 (F := Ideal) X.hid X.tail (ix3 b e k)) ((X.doc b).hid ((X.doc b).tail e) k) :=
    gather_rows _ X.hid _ b e k _ (v50_at ok b e) (by norm_num)
  refine (congrArg₂ (fun x y : EReal => (x + y) * half) h t).trans ?_
  exact mul_comm _ _

omit ok in
/-- The attention summed over the heads. -/
theorem v0_at (l l' : Fin 512) : @Eq EReal (val_main_v0 (F := Ideal) X.att (ix3 b l l')) (∑ h, (X.doc b).att h l l') := by
  rw [val_main_v0_apply]
  refine (congrArg₂ (fun x y : EReal => x + y) (show _ = (0 : EReal) from Ideal.ofBits_zero_f32) (Finset.sum_congr rfl fun h _ => ?_)).trans (zero_add _)
  exact congrArg X.att (funext fun a => by match a with | ⟨0, _⟩ => rfl | ⟨1, _⟩ => rfl | ⟨2, _⟩ => rfl | ⟨3, _⟩ => rfl)

/-- An entity's attention row. -/
theorem v71_at (e : Fin 16) (l : Fin 512) :
    @Eq EReal (val_main_v71 (F := Ideal) X.att X.head X.tail (ix3 b e l)) ((X.doc b).entAtt e l) := by
  have h : @Eq EReal (val_main_v61 (F := Ideal) X.att X.head (ix3 b e l)) (∑ h, (X.doc b).att h ((X.doc b).head e) l) :=
    (gather_rows _ (val_main_v0 (F := Ideal) X.att) _ b e l _ (v43_at ok b e) (by norm_num)).trans (v0_at b _ l)
  have t : @Eq EReal (val_main_v68 (F := Ideal) X.att X.tail (ix3 b e l)) (∑ h, (X.doc b).att h ((X.doc b).tail e) l) :=
    (gather_rows _ (val_main_v0 (F := Ideal) X.att) _ b e l _ (v50_at ok b e) (by norm_num)).trans (v0_at b _ l)
  refine (congrArg₂ (fun x y : EReal => (x + y) * half) h t).trans ?_
  exact mul_comm _ _

/-- The first entity's feature row of a pair. -/
theorem v85_at (p : Fin 240) (k : Fin 768) :
    @Eq EReal (val_main_v85 (F := Ideal) X.hid X.head X.tail (ix3 b p k)) ((X.doc b).feat (src p) k) :=
  (gather_every _ (val_main_v54 (F := Ideal) X.hid X.head X.tail) _ b p k _ (v84_at p) (by norm_num)).trans (v54_at ok b _ k)

/-- The second entity's feature row of a pair. -/
theorem v92_at (p : Fin 240) (k : Fin 768) :
    @Eq EReal (val_main_v92 (F := Ideal) X.hid X.head X.tail (ix3 b p k)) ((X.doc b).feat (dst p) k) :=
  (gather_every _ (val_main_v54 (F := Ideal) X.hid X.head X.tail) _ b p k _ (v91_at p) (by norm_num)).trans (v54_at ok b _ k)

/-! ## Context -/

/-- A pair's attention row, masked. -/
theorem v110_at (p : Fin 240) (l : Fin 512) :
    @Eq EReal (val_main_v110 (F := Ideal) X.att X.head X.tail X.mask (ix3 b p l)) ((X.doc b).pairAtt p l) := by
  have s : @Eq EReal (val_main_v99 (F := Ideal) X.att X.head X.tail (ix3 b p l)) ((X.doc b).entAtt (src p) l) :=
    (gather_every _ (val_main_v71 (F := Ideal) X.att X.head X.tail) _ b p l _ (v84_at p) (by norm_num)).trans (v71_at ok b _ l)
  have d : @Eq EReal (val_main_v106 (F := Ideal) X.att X.head X.tail (ix3 b p l)) ((X.doc b).entAtt (dst p) l) :=
    (gather_every _ (val_main_v71 (F := Ideal) X.att X.head X.tail) _ b p l _ (v91_at p) (by norm_num)).trans (v71_at ok b _ l)
  have q : @Eq EReal (val_main_v109 (F := Ideal) X.mask (ix3 b p l)) ((X.doc b).mask l) := by
    rw [val_main_v109_apply, val_main_v108_apply]
    exact congrArg X.mask (funext fun a => by match a with | ⟨0, _⟩ => rfl | ⟨1, _⟩ => rfl)
  exact congrArg₂ (fun x y : EReal => x * y) (congrArg₂ (fun x y : EReal => x * y) s d) q

/-- The divisor of a pair's row. -/
theorem v159_at (p : Fin 240) (l : Fin 512) :
    @Eq EReal (val_main_v159 (F := Ideal) X.att X.head X.tail X.mask (ix3 b p l)) (∑ l', (X.doc b).pairAtt p l' + tiny) := by
  have s : @Eq EReal (val_main_v155 (F := Ideal) X.att X.head X.tail X.mask (ix2 b p)) (∑ l', (X.doc b).pairAtt p l') := by
    rw [val_main_v155_apply]
    refine (congrArg₂ (fun x y : EReal => x + y) (show _ = (0 : EReal) from Ideal.ofBits_zero_f32) (Finset.sum_congr rfl fun l' _ => ?_)).trans (zero_add _)
    rw [show idx_main_v155 (ix2 b p) l' = ix3 b p l' from funext fun a => by match a with | ⟨0, _⟩ => rfl | ⟨1, _⟩ => rfl | ⟨2, _⟩ => rfl]
    exact v110_at ok b p l'
  rw [val_main_v159_apply, val_main_v158_apply, val_main_v156_apply,
    show idx_main_v156 (idx_main_v159 (ix3 b p l)) = ix2 b p from funext fun a => by match a with | ⟨0, _⟩ => rfl | ⟨1, _⟩ => rfl]
  exact congrArg (fun x : EReal => x + tiny) s

/-- A pair's context. -/
theorem v161_at (p : Fin 240) (k : Fin 768) :
    @Eq EReal (val_main_v161 (F := Ideal) X.hid X.att X.head X.tail X.mask (ix3 b p k)) ((X.doc b).info p k) := by
  rw [val_main_v161_apply]
  refine Finset.sum_congr rfl fun l _ => ?_
  rw [show lidx_main_v161 (ix3 b p k) l = ix3 b p l from funext fun a => by match a with | ⟨0, _⟩ => rfl | ⟨1, _⟩ => rfl | ⟨2, _⟩ => rfl,
    show ridx_main_v161 (ix3 b p k) l = ix3 b l k from funext fun a => by match a with | ⟨0, _⟩ => rfl | ⟨1, _⟩ => rfl | ⟨2, _⟩ => rfl]
  exact congrArg (fun x : EReal => x * X.hid (ix3 b l k)) (congrArg₂ Ideal.div (v110_at ok b p l) (v159_at ok b p l))

/-! ## Kinds and distances -/

/-- An entity's kind row. -/
theorem v78_at (e : Fin 16) (t : Fin 20) :
    @Eq EReal (val_main_v78 (F := Ideal) X.kind X.kinds (ix3 b e t)) ((X.doc b).kinds ((X.doc b).kind e) t) :=
  gather_table _ X.kinds _ b e t _ (v77_at ok b e) (by norm_num)

/-- The first entity's kind row of a pair. -/
theorem v117_at (p : Fin 240) (t : Fin 20) :
    @Eq EReal (val_main_v117 (F := Ideal) X.kind X.kinds (ix3 b p t)) ((X.doc b).kinds ((X.doc b).kind (src p)) t) :=
  (gather_every _ (val_main_v78 (F := Ideal) X.kind X.kinds) _ b p t _ (v84_at p) (by norm_num)).trans (v78_at ok b _ t)

/-- The second entity's kind row of a pair. -/
theorem v124_at (p : Fin 240) (t : Fin 20) :
    @Eq EReal (val_main_v124 (F := Ideal) X.kind X.kinds (ix3 b p t)) ((X.doc b).kinds ((X.doc b).kind (dst p)) t) :=
  (gather_every _ (val_main_v78 (F := Ideal) X.kind X.kinds) _ b p t _ (v91_at p) (by norm_num)).trans (v78_at ok b _ t)

omit ok in
/-- A pair's distance is below 512. -/
theorem dist_lt (p : Fin 240) : (X.doc b).dist p < 512 := by
  unfold Doc.dist
  have := ((X.doc b).tail (src p)).2
  have := ((X.doc b).head (dst p)).2
  omega

/-- A pair's distance's word. -/
theorem v140_at (p : Fin 240) :
    @Eq (BitVec 32) (val_main_v140 (F := Ideal) X.head X.tail (ix2 b p)) (BitVec.ofNat 32 ((X.doc b).dist p)) := by
  have t : @Eq (BitVec 32) (val_main_v131 (F := Ideal) X.tail (ix2 b p)) (BitVec.ofNat 32 ((X.doc b).tail (src p)).val) :=
    (gather_each _ X.tail _ b p _ (v84_at p) (by norm_num)).trans (ok.tail_eq b _)
  have h : @Eq (BitVec 32) (val_main_v138 (F := Ideal) X.head (ix2 b p)) (BitVec.ofNat 32 ((X.doc b).head (dst p)).val) :=
    (gather_each _ X.head _ b p _ (v91_at p) (by norm_num)).trans (ok.head_eq b _)
  exact (congrArg₂ (fun x y : BitVec 32 => IntOp.absi (IntOp.subi x y)) t h).trans (word_dist (Fin.isLt _) (Fin.isLt _))

omit ok in
/-- The distance table. -/
theorem v37_at (n : Fin 1024) : @Eq (BitVec 32) (val_main_v37 (F := Ideal) (ix1 n)) (BitVec.ofNat 32 (bucket n.val).val) := by
  revert n
  decide +kernel

/-- A pair's distance bucket's word. -/
theorem v147_at (p : Fin 240) :
    @Eq (BitVec 32) (val_main_v147 (F := Ideal) X.head X.tail (ix2 b p)) (BitVec.ofNat 32 (bucket ((X.doc b).dist p)).val) := by
  have hd := dist_lt (X := X) b p
  refine (gather_list _ (val_main_v37 (F := Ideal)) _ b p ⟨(X.doc b).dist p, by omega⟩ ?_ (by norm_num)).trans (v37_at _)
  rw [val_main_v146_apply, show idx_main_v146 (ix3 b p 0) = ix2 b p from funext fun a => by match a with | ⟨0, _⟩ => rfl | ⟨1, _⟩ => rfl]
  exact (wrap_word (n := (X.doc b).dist p) (by omega) _ 1024#32 (v140_at ok b p)).trans (v140_at ok b p)

/-- A pair's distance row. -/
theorem v154_at (p : Fin 240) (t : Fin 20) :
    @Eq EReal (val_main_v154 (F := Ideal) X.head X.tail X.dists (ix3 b p t)) ((X.doc b).dists (bucket ((X.doc b).dist p)) t) := by
  refine gather_table _ X.dists _ b p t _ ?_ (by norm_num)
  rw [val_main_v153_apply, show idx_main_v153 (ix3 b p 0) = ix2 b p from funext fun a => by match a with | ⟨0, _⟩ => rfl | ⟨1, _⟩ => rfl]
  exact (wrap_word (n := (bucket ((X.doc b).dist p)).val) (by have := (bucket ((X.doc b).dist p)).2; omega) _ 20#32 (v147_at ok b p)).trans (v147_at ok b p)

end Cert.ReferenceIdeal.Stages

end
-- ==== Proof.ReferenceIdealValue.lean ====
/- The reference's result is the plain computation of its arguments. -/
module

public import proofs.«01_k».proof.Proof.ReferenceIdealRows

@[expose] public section

set_option maxRecDepth 16384

noncomputable section

namespace Cert.ReferenceIdeal.Stages

open Cert.ReferenceIdeal Cert.ReferenceIdeal.Gen Cert.ReferenceIdeal.Read Cert.Model
open Idealize.ShloMosaic Idealize.ShloMosaic.TcCoe Idealize.SL.Sem Idealize.ShloMosaic.StableHlo

/-! ## The four parts side by side -/

/-- A sum over 1576 columns is the sum over its four parts. -/
theorem sum_parts (f : Fin 1576 → EReal) :
    ∑ k, f k = ∑ k : Fin 768, f ⟨k.val, by omega⟩ + ∑ k : Fin 768, f ⟨768 + k.val, by omega⟩
      + (∑ t : Fin 20, f ⟨1536 + t.val, by omega⟩ + ∑ t : Fin 20, f ⟨1556 + t.val, by omega⟩) := by
  refine (Fin.sum_univ_add (a := 1536) (b := 40) f).trans (congrArg₂ (fun x y : EReal => x + y) ?_ ?_)
  · exact Fin.sum_univ_add (a := 768) (b := 768) fun k => f (Fin.castAdd 40 k)
  · refine (Fin.sum_univ_add (a := 20) (b := 20) fun k => f (Fin.natAdd 1536 k)).trans (congrArg₂ (fun x y : EReal => x + y) rfl ?_)
    refine Finset.sum_congr rfl fun t _ => congrArg f (Fin.ext ?_)
    show 1536 + (20 + t.val) = 1556 + t.val
    omega

section Joined

variable (A B : S4x240x768.Idx → EReal) (C D : S4x240x20.Idx → EReal) (b : Fin 4) (p : Fin 240)

/-- Four arrays joined along their last axis. -/
abbrev joined : S4x240x1576.Idx → EReal :=
  concatenate S4x240x1576 2 [⟨S4x240x768, A⟩, ⟨S4x240x768, B⟩, ⟨S4x240x20, C⟩, ⟨S4x240x20, D⟩]
    concatenates_S4x240x768_S4x240x768_S4x240x20_S4x240x20_S4x240x1576_d2

/-- The first 768 columns are the first array's. -/
theorem joined_0 (k : Fin 768) : joined A B C D (ix3 b p ⟨k.val, by omega⟩) = A (ix3 b p k) :=
  concatenate_apply_piece (t := S4x240x1576) 2 _ _ _ 0 (by simp) S4x240x768 A rfl rfl 0 rfl (ix3 b p k)
    (fun c hc => by match c with | ⟨0, _⟩ => rfl | ⟨1, _⟩ => rfl | ⟨2, _⟩ => exact absurd rfl hc) (Nat.zero_add _)

/-- The next 768 columns are the second array's. -/
theorem joined_1 (k : Fin 768) : joined A B C D (ix3 b p ⟨768 + k.val, by omega⟩) = B (ix3 b p k) :=
  concatenate_apply_piece (t := S4x240x1576) 2 _ _ _ 1 (by simp) S4x240x768 B rfl rfl 768 rfl (ix3 b p k)
    (fun c hc => by match c with | ⟨0, _⟩ => rfl | ⟨1, _⟩ => rfl | ⟨2, _⟩ => exact absurd rfl hc) rfl

/-- The next 20 columns are the third array's. -/
theorem joined_2 (t : Fin 20) : joined A B C D (ix3 b p ⟨1536 + t.val, by omega⟩) = C (ix3 b p t) :=
  concatenate_apply_piece (t := S4x240x1576) 2 _ _ _ 2 (by simp) S4x240x20 C rfl rfl 1536 rfl (ix3 b p t)
    (fun c hc => by match c with | ⟨0, _⟩ => rfl | ⟨1, _⟩ => rfl | ⟨2, _⟩ => exact absurd rfl hc) rfl

/-- The last 20 columns are the fourth array's. -/
theorem joined_3 (t : Fin 20) : joined A B C D (ix3 b p ⟨1556 + t.val, by omega⟩) = D (ix3 b p t) :=
  concatenate_apply_piece (t := S4x240x1576) 2 _ _ _ 3 (by simp) S4x240x20 D rfl rfl 1556 rfl (ix3 b p t)
    (fun c hc => by match c with | ⟨0, _⟩ => rfl | ⟨1, _⟩ => rfl | ⟨2, _⟩ => exact absurd rfl hc) rfl

/-- The four joined arrays of an example's pair against a weight. -/
theorem joined_mix (G : Doc) (e : Fin 16) (w : Fin 1576 → Fin 768 → EReal) (j : Fin 768)
    (hA : ∀ k, A (ix3 b p k) = G.feat e k) (hB : ∀ k, B (ix3 b p k) = G.info p k)
    (hC : ∀ t, C (ix3 b p t) = G.kinds (G.kind e) t) (hD : ∀ t, D (ix3 b p t) = G.dists (bucket (G.dist p)) t) :
    ∑ k : Fin 1576, joined A B C D (ix3 b p k) * w k j = G.mix e p w j := by
  rw [sum_parts]
  unfold Doc.mix
  simp only [joined_0, joined_1, joined_2, joined_3, hA, hB, hC, hD]

end Joined

/-! ## The two representations -/

section Rows

variable {X : Inputs} (ok : X.Ok)
include ok

/-- A pair's head representation. -/
theorem v170_at (n : Fin 960) (j : Fin 768) :
    @Eq EReal (val_main_v170 (F := Ideal) X.hid X.att X.head X.tail X.kind X.mask X.hw X.hb X.dists X.kinds (ix2 n j)) (X.headRow n j) := by
  refine congrArg Ideal.tanh (congrArg₂ (fun x y : EReal => x + y) ?_ ?_)
  · rw [val_main_v166_apply]
    refine (Finset.sum_congr rfl fun k _ => ?_).trans (joined_mix _ _ _ _ ⟨n.val / 240, by omega⟩ ⟨n.val % 240, by omega⟩ (X.doc ⟨n.val / 240, by omega⟩)
      (src ⟨n.val % 240, by omega⟩) (fun k j => X.hw (ix2 k j)) j (v85_at ok _ _) (v161_at ok _ _) (v117_at ok _ _) (v154_at ok _ _))
    refine congrArg₂ (fun x y : EReal => x * y) ?_ (congrArg X.hw (funext fun a => by match a with | ⟨0, _⟩ => rfl | ⟨1, _⟩ => rfl))
    rw [val_main_v164_apply]
    refine congrArg (val_main_v162 (F := Ideal) X.hid X.att X.head X.tail X.kind X.mask X.dists X.kinds) (funext fun a => Fin.ext ?_)
    match a with
    | ⟨0, _⟩ => show (n.val * 1576 + k.val) / 378240 = n.val / 240; omega
    | ⟨1, _⟩ => show (n.val * 1576 + k.val) / 1576 % 240 = n.val % 240; omega
    | ⟨2, _⟩ => show (n.val * 1576 + k.val) % 1576 = k.val; omega
  · rw [val_main_v168_apply, val_main_v167_apply]
    exact congrArg X.hb (funext fun a => by match a with | ⟨0, _⟩ => rfl)

/-- A pair's tail representation. -/
theorem v175_at (n : Fin 960) (j : Fin 768) :
    @Eq EReal (val_main_v175 (F := Ideal) X.hid X.att X.head X.tail X.kind X.mask X.tw X.tb X.dists X.kinds (ix2 n j)) (X.tailRow n j) := by
  refine congrArg Ideal.tanh (congrArg₂ (fun x y : EReal => x + y) ?_ ?_)
  · rw [val_main_v171_apply]
    refine (Finset.sum_congr rfl fun k _ => ?_).trans (joined_mix _ _ _ _ ⟨n.val / 240, by omega⟩ ⟨n.val % 240, by omega⟩ (X.doc ⟨n.val / 240, by omega⟩)
      (dst ⟨n.val % 240, by omega⟩) (fun k j => X.tw (ix2 k j)) j (v92_at ok _ _) (v161_at ok _ _) (v124_at ok _ _) (v154_at ok _ _))
    refine congrArg₂ (fun x y : EReal => x * y) ?_ (congrArg X.tw (funext fun a => by match a with | ⟨0, _⟩ => rfl | ⟨1, _⟩ => rfl))
    rw [val_main_v165_apply]
    refine congrArg (val_main_v163 (F := Ideal) X.hid X.att X.head X.tail X.kind X.mask X.dists X.kinds) (funext fun a => Fin.ext ?_)
    match a with
    | ⟨0, _⟩ => show (n.val * 1576 + k.val) / 378240 = n.val / 240; omega
    | ⟨1, _⟩ => show (n.val * 1576 + k.val) / 1576 % 240 = n.val % 240; omega
    | ⟨2, _⟩ => show (n.val * 1576 + k.val) % 1576 = k.val; omega
  · rw [val_main_v173_apply, val_main_v172_apply]
    exact congrArg X.tb (funext fun a => by match a with | ⟨0, _⟩ => rfl)

/-! ## The scores -/

/-- The outer products of a pair's two representations, twelve slabs of 64 by 64. -/
theorem v183_at (n : Fin 960) (K : Fin 49152) :
    @Eq EReal (val_main_v183 (F := Ideal) X.hid X.att X.head X.tail X.kind X.mask X.hw X.hb X.tw X.tb X.dists X.kinds (ix2 n K))
      (X.headRow n ⟨K.val / 4096 * 64 + K.val % 4096 / 64, by omega⟩ * X.tailRow n ⟨K.val / 4096 * 64 + K.val % 64, by omega⟩) := by
  rw [val_main_v183_apply]
  refine congrArg₂ (fun x y : EReal => x * y) ?_ ?_
  · rw [val_main_v180_apply, val_main_v178_apply, val_main_v176_apply]
    refine (congrArg (val_main_v170 (F := Ideal) X.hid X.att X.head X.tail X.kind X.mask X.hw X.hb X.dists X.kinds) (funext fun a => Fin.ext ?_)).trans
      (v170_at ok n _)
    match a with
    | ⟨0, _⟩ =>
      show (((n.val * 49152 + K.val) / 49152 * 12 + (n.val * 49152 + K.val) / 4096 % 12) * 64 + (n.val * 49152 + K.val) / 64 % 64) / 768 = n.val
      omega
    | ⟨1, _⟩ =>
      show (((n.val * 49152 + K.val) / 49152 * 12 + (n.val * 49152 + K.val) / 4096 % 12) * 64 + (n.val * 49152 + K.val) / 64 % 64) % 768
        = K.val / 4096 * 64 + K.val % 4096 / 64
      omega
  · rw [val_main_v181_apply, val_main_v179_apply, val_main_v177_apply]
    refine (congrArg (val_main_v175 (F := Ideal) X.hid X.att X.head X.tail X.kind X.mask X.tw X.tb X.dists X.kinds) (funext fun a => Fin.ext ?_)).trans
      (v175_at ok n _)
    match a with
    | ⟨0, _⟩ =>
      show (((n.val * 49152 + K.val) / 49152 * 12 + (n.val * 49152 + K.val) / 4096 % 12) * 64 + (n.val * 49152 + K.val) % 64) / 768 = n.val
      omega
    | ⟨1, _⟩ =>
      show (((n.val * 49152 + K.val) / 49152 * 12 + (n.val * 49152 + K.val) / 4096 % 12) * 64 + (n.val * 49152 + K.val) % 64) % 768
        = K.val / 4096 * 64 + K.val % 64
      omega

/-- The reference's result is the plain computation. -/
theorem result_eq : @Eq (S960x97.Idx → EReal)
    (val_main_v187 (F := Ideal) X.hid X.att X.head X.tail X.kind X.mask X.hw X.hb X.tw X.tb X.dists X.kinds X.cw X.cb)
    (fun y => X.score (y 0) (y 1)) := by
  funext y
  refine congrArg₂ (fun x y : EReal => x + y) ?_ ?_
  · rw [val_main_v184_apply]
    refine Finset.sum_congr rfl fun K _ => ?_
    rw [show lidx_main_v184 y K = ix2 (y 0) K from funext fun a => by match a with | ⟨0, _⟩ => rfl | ⟨1, _⟩ => rfl,
      show ridx_main_v184 y K = ix2 K (y 1) from funext fun a => by match a with | ⟨0, _⟩ => rfl | ⟨1, _⟩ => rfl]
    exact congrArg (fun x : EReal => x * X.cw (ix2 K (y 1))) (v183_at ok (y 0) K)
  · rw [val_main_v186_apply, val_main_v185_apply]
    exact congrArg X.cb (funext fun a => by match a with | ⟨0, _⟩ => rfl)

end Rows

/-! ## The arguments -/

variable (V : Valuation τ sig (Elt Ideal))

/-- The argument arrays among the contents of the program's buffers. -/
def inputs : Inputs where
  hid := V (Proc.devRef .tc main_arg0)
  att := V (Proc.devRef .tc main_arg1)
  head := V (Proc.devRef .tc main_arg2)
  tail := V (Proc.devRef .tc main_arg3)
  kind := V (Proc.devRef .tc main_arg4)
  mask := V (Proc.devRef .tc main_arg5)
  hw := V (Proc.devRef .tc main_arg6)
  hb := V (Proc.devRef .tc main_arg7)
  tw := V (Proc.devRef .tc main_arg8)
  tb := V (Proc.devRef .tc main_arg9)
  dists := V (Proc.devRef .tc main_arg10)
  kinds := V (Proc.devRef .tc main_arg11)
  cw := V (Proc.devRef .tc main_arg12)
  cb := V (Proc.devRef .tc main_arg13)

/-- The reference's result from any contents is the plain computation of their arguments. -/
theorem result_inputs (ok : (inputs V).Ok) : @Eq (S960x97.Idx → EReal)
    (val_main_v187 (F := Ideal) (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7)) (V (Proc.devRef .tc main_arg8))
      (V (Proc.devRef .tc main_arg9)) (V (Proc.devRef .tc main_arg10)) (V (Proc.devRef .tc main_arg11)) (V (Proc.devRef .tc main_arg12)) (V (Proc.devRef .tc main_arg13)))
    (fun y => (inputs V).score (y 0) (y 1)) :=
  result_eq (X := inputs V) ok

end Cert.ReferenceIdeal.Stages

end
-- ==== Proof.InRange.lean ====
/- What the precondition says of the integer arguments. -/
module

public import proofs.«01_k».proof.Pre_in_range
public import proofs.«01_k».proof.Proof.Tools
public import Idealize.ShloMosaic.Lib.ReduceAll
public import Idealize.ShloMosaic.Lib.WordCmp
public import Idealize.ShloMosaic.Lib.Affine

@[expose] public section

noncomputable section

namespace Cert.Pre_in_range

open Idealize.ShloMosaic Idealize.SL.Sem

/-- The side conditions of the precondition's operations. -/
theorem facts : Facts where
  bcast_S_S4x16 := by decide
  reducesTo_S4x16_S_d0_1 := by decide
  h_S_ := by decide

variable [Facts]

instance : Subsingleton S_.Idx := ⟨fun a b => funext fun i => i.elim0⟩

/-- A word at least zero and below a small bound, as signed words, is below the bound as a number. -/
theorem toNat_lt {x : BitVec 32} {n : ℕ} (hn : n < 2 ^ 31) (h0 : IntOp.cmpi .sge x 0#32 = 1#1) (h1 : IntOp.cmpi .slt x (BitVec.ofNat 32 n) = 1#1) :
    x.toNat < n := by
  have h0 : BitVec.ofBool (decide ((0#32).toInt ≤ x.toInt)) = 1#1 := h0
  have h1 : BitVec.ofBool (decide (x.toInt < (BitVec.ofNat 32 n).toInt)) = 1#1 := h1
  have a : (0 : ℤ) ≤ x.toInt := by by_contra h; simp [h] at h0
  have b : x.toInt < (BitVec.ofNat 32 n).toInt := by by_contra h; simp [h] at h1
  rw [BitVec.toInt_eq_toNat_cond] at a b
  rw [BitVec.toInt_eq_toNat_cond, BitVec.toNat_ofNat] at b
  have := x.isLt
  split_ifs at a b <;> omega

/-- The precondition bounds every integer argument. -/
theorem bounds (a0 : FVec Ideal S4x512x768 .f32) (a1 : FVec Ideal S4x12x512x512 .f32) (a2 a3 a4 : IVec S4x16 32) (a5 : FVec Ideal S4x512 .f32)
    (a6 : FVec Ideal S1576x768 .f32) (a7 : FVec Ideal S768 .f32) (a8 : FVec Ideal S1576x768 .f32) (a9 : FVec Ideal S768 .f32)
    (a10 : FVec Ideal S20x20 .f32) (a11 : FVec Ideal S7x20 .f32) (a12 : FVec Ideal S49152x97 .f32) (a13 : FVec Ideal S97 .f32)
    (i : S_.Idx) (h : fn (F := Ideal) a0 a1 a2 a3 a4 a5 a6 a7 a8 a9 a10 a11 a12 a13 i = 1#1) :
    (∀ y, (a2 y).toNat < 512) ∧ (∀ y, (a3 y).toNat < 512) ∧ ∀ y, (a4 y).toNat < 7 := by
  unfold fn fn_part1 at h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h1, h2⟩ := IntOp.andi_eq_one.mp h
  exact ⟨fun y => toNat_lt (by norm_num) (Host.reduce_andi_all _ _ _ _ _ h1 y) (Host.reduce_andi_all _ _ _ _ _ h2 y),
    fun y => toNat_lt (by norm_num) (Host.reduce_andi_all _ _ _ _ _ h3 y) (Host.reduce_andi_all _ _ _ _ _ h4 y),
    fun y => toNat_lt (by norm_num) (Host.reduce_andi_all _ _ _ _ _ h5 y) (Host.reduce_andi_all _ _ _ _ _ h6 y)⟩

end Cert.Pre_in_range

end
-- ==== Proof.lean ====
/- The proof of the certificate's claims: the frames of the three programs, that idealizing the kernel replaced nothing, and that
   the kernel and the reference end with the same scores. -/
module

public import proofs.«01_k».proof.Defs
public import proofs.«01_k».proof.Proof.KernelRun
public import proofs.«01_k».proof.Proof.KernelIdealValue
public import proofs.«01_k».proof.Proof.ReferenceIdealValue
public import proofs.«01_k».proof.Proof.InRange
public import proofs.«01_k».proof.Proof.Gen.ReferenceIdeal.Run
public import proofs.«01_k».proof.Proof.Gen.ReferenceIdeal
public import Idealize.ShloMosaic.Lib.Quiescent

@[expose] public section

noncomputable section

namespace Cert.Proof

open Idealize.ShloMosaic Idealize.ShloMosaic.TcCoe Idealize.SL.Sem Idealize.ShloMosaic.StableHlo Cert.Kernel

/-- The frame of the idealized kernel holds from any memory. -/
theorem kernelIdeal_frame : Cert.quiescent_KernelIdeal (hKernelIdeal := Cert.KernelIdeal.Gen.facts) :=
  fun m g _ => Cert.KernelIdeal.Stages.frame m g

/-- The frame of the reference holds from any memory. -/
theorem referenceIdeal_frame : Cert.quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Value.run m g)

/-- The integer arguments of a memory that meets the precondition are in range. -/
theorem inputs_ok (m : (ℓ : Loc Cert.KernelIdeal.nD Cert.KernelIdeal.τ Cert.KernelIdeal.sig) → Buf (Elt Ideal) ℓ)
    (h : Cert.Pre_KernelIdeal_in_range (hPre_in_range := Cert.Pre_in_range.facts) m) (c : Dev Cert.KernelIdeal.nD) :
    (Cert.KernelIdeal.Stages.inputs m c).Ok := by
  have b := @Cert.Pre_in_range.bounds Cert.Pre_in_range.facts _ _ _ _ _ _ _ _ _ _ _ _ _ _ (fun a => a.elim0) (congrFun (h c) (fun a => a.elim0))
  exact ⟨b.1, b.2.1, b.2.2⟩

/-- The kernel and the reference end with the same scores. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.facts) := by
  intro m g m' g' hp he
  refine ⟨fun c => Cert.KernelIdeal.Stages.result m g c, Cert.KernelIdeal.Stages.run_result m g, ?_⟩
  refine (θ_run _ _ _).mono (fun r h c => ⟨?_, (h c).2⟩) (Cert.ReferenceIdeal.Value.run m' g')
  have e : Cert.ReferenceIdeal.Stages.inputs (launchContents m' c) = Cert.KernelIdeal.Stages.inputs m c := by
    obtain ⟨e0, e1, e2, e3, e4, e5, e6, e7, e8, e9, e10, e11, e12, e13⟩ := he c
    unfold Cert.ReferenceIdeal.Stages.inputs Cert.KernelIdeal.Stages.inputs
    congr 1
  have ok := inputs_ok m hp c
  refine (h c).1.trans ((Cert.ReferenceIdeal.Read.val_main_v187_eq (launchContents m' c)).trans
    ((Cert.ReferenceIdeal.Stages.result_inputs (launchContents m' c) (e ▸ ok)).trans ?_))
  rw [e]
  exact (Cert.KernelIdeal.Stages.result_eq m g c ok).symm

/-- Everything the certificate claims. -/
theorem claim : Cert.Claim := ⟨Cert.Kernel.Gen.facts, Cert.KernelIdeal.Gen.facts, Cert.ReferenceIdeal.Gen.facts, Cert.Pre_in_range.facts,
  fun m g _ => Cert.Kernel.Stages.frame m g,
  kernelIdeal_frame,
  fun m g _ => kernelIdeal_frame m g trivial,
  referenceIdeal_frame,
  fun m g _ => referenceIdeal_frame m g trivial,
  trivial,
  algebraic⟩

end Cert.Proof

end
